-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_separate_points [hPre_separate_points : Cert.Pre_separate_points.Facts] (m : (ℓ : Loc Cert.KernelIdeal.nD Cert.KernelIdeal.τ Cert.KernelIdeal.sig) → Buf (Elt Ideal) ℓ) : Prop :=
  ∀ c : Dev Cert.KernelIdeal.nD,
    (Cert.Pre_separate_points.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_separate_points [hPre_separate_points : Cert.Pre_separate_points.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_separate_points.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_separate_points [hKernelIdeal : Cert.KernelIdeal.Facts] [hPre_separate_points : Cert.Pre_separate_points.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_separate_points m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_separate_points [hReferenceIdeal : Cert.ReferenceIdeal.Facts] [hPre_separate_points : Cert.Pre_separate_points.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_separate_points m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_separate_points [hKernelIdeal : Cert.KernelIdeal.Facts] [hReferenceIdeal : Cert.ReferenceIdeal.Facts] [hPre_separate_points : Cert.Pre_separate_points.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_separate_points m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)) (v2 : (c : Dev Cert.KernelIdeal.nD) → Buf (Elt Ideal) ((c.tc : Thread Cert.KernelIdeal.nD Cert.KernelIdeal.τ).loc Cert.KernelIdeal.main_v13)) (v3 : (c : Dev Cert.KernelIdeal.nD) → Buf (Elt Ideal) ((c.tc : Thread Cert.KernelIdeal.nD Cert.KernelIdeal.τ).loc Cert.KernelIdeal.main_v14)) (v4 : (c : Dev Cert.KernelIdeal.nD) → Buf (Elt Ideal) ((c.tc : Thread Cert.KernelIdeal.nD Cert.KernelIdeal.τ).loc Cert.KernelIdeal.main_v15)) (v5 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_v13) = v2 c
          ∧ r.2.mem ((c.tc : Thread Cert.KernelIdeal.nD Cert.KernelIdeal.τ).loc Cert.KernelIdeal.main_v14) = v3 c
          ∧ r.2.mem ((c.tc : Thread Cert.KernelIdeal.nD Cert.KernelIdeal.τ).loc Cert.KernelIdeal.main_v15) = v4 c
          ∧ r.2.mem ((c.tc : Thread Cert.KernelIdeal.nD Cert.KernelIdeal.τ).loc Cert.KernelIdeal.main_v12) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v143) = v1 c
          ∧ r.2.mem ((c.tc : Thread Cert.ReferenceIdeal.nD Cert.ReferenceIdeal.τ).loc Cert.ReferenceIdeal.main_v124) = v2 c
          ∧ r.2.mem ((c.tc : Thread Cert.ReferenceIdeal.nD Cert.ReferenceIdeal.τ).loc Cert.ReferenceIdeal.main_v77) = v3 c
          ∧ r.2.mem ((c.tc : Thread Cert.ReferenceIdeal.nD Cert.ReferenceIdeal.τ).loc Cert.ReferenceIdeal.main_v117) = v4 c
          ∧ r.2.mem ((c.tc : Thread Cert.ReferenceIdeal.nD Cert.ReferenceIdeal.τ).loc Cert.ReferenceIdeal.main_v149) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_separate_points : Cert.Pre_separate_points.Facts),
    quiescent_Kernel (hKernel := hKernel)
    ∧ quiescent_KernelIdeal (hKernelIdeal := hKernelIdeal)
    ∧ quiescent_KernelIdeal_pre_separate_points (hKernelIdeal := hKernelIdeal) (hPre_separate_points := hPre_separate_points)
    ∧ quiescent_ReferenceIdeal (hReferenceIdeal := hReferenceIdeal)
    ∧ quiescent_ReferenceIdeal_pre_separate_points (hReferenceIdeal := hReferenceIdeal) (hPre_separate_points := hPre_separate_points)
    ∧ preserves_Kernel_KernelIdeal
    ∧ algebraic_KernelIdeal_ReferenceIdeal_pre_separate_points (hKernelIdeal := hKernelIdeal) (hReferenceIdeal := hReferenceIdeal) (hPre_separate_points := hPre_separate_points)
-- ==== Pre_separate_points.lean ====
abbrev S1024x4096x2 : Shape := ⟨3, ![1024, 4096, 2]⟩
abbrev S1024x4096 : Shape := ⟨2, ![1024, 4096]⟩
abbrev S_ : Shape := ⟨0, ![]⟩
abbrev S1024x4095x2 : Shape := ⟨3, ![1024, 4095, 2]⟩
abbrev S1024x4095 : Shape := ⟨2, ![1024, 4095]⟩
abbrev S1024x4094 : Shape := ⟨2, ![1024, 4094]⟩

class Facts : Prop where
  slices_S1024x4096x2_S1024x4095x2_0_1_0 : S1024x4096x2.Slices ![0, 1, 0] S1024x4095x2
  slices_S1024x4096x2_S1024x4095x2_0_0_0 : S1024x4096x2.Slices ![0, 0, 0] S1024x4095x2
  reducesTo_S1024x4095x2_S1024x4095_d2 : S1024x4095x2.ReducesTo [2] S1024x4095
  h_S_ : 0 < S_.numel
  bcast_S_S1024x4095 : S_.BroadcastsInDim S1024x4095 (![] : Fin 0 → Fin S1024x4095.rank)
  reducesTo_S1024x4095_S_d0_1 : S1024x4095.ReducesTo [0, 1] S_
  slices_S1024x4096_S1024x4094_0_1 : S1024x4096.Slices ![0, 1] S1024x4094
  bcast_S_S1024x4094 : S_.BroadcastsInDim S1024x4094 (![] : Fin 0 → Fin S1024x4094.rank)
  reducesTo_S1024x4094_S_d0_1 : S1024x4094.ReducesTo [0, 1] S_

variable [Facts]

def fn {F : FTy → Type} [FloatOps F] (main_arg0 : FVec F S1024x4096x2 .f32) (main_arg1 : FVec F S1024x4096 .f32) (main_arg2 : FVec F S_ .f32) (main_arg3 : FVec F S_ .f32) : IVec S_ 1 :=
  let main_v0 : FVec F S1024x4095x2 .f32 := (extractStridedSlice S1024x4095x2 ![0, 1, 0] · slices_S1024x4096x2_S1024x4095x2_0_1_0) main_arg0
  let main_v1 : FVec F S1024x4095x2 .f32 := (extractStridedSlice S1024x4095x2 ![0, 0, 0] · slices_S1024x4096x2_S1024x4095x2_0_0_0) main_arg0
  let main_v2 : FVec F S1024x4095x2 .f32 := subf main_v0 main_v1
  let main_v3 : FVec F S1024x4095x2 .f32 := mulf main_v2 main_v2
  let main_cst : FVec F S_ .f32 := constant S_ .f32 0x00000000#32
  let main_v4 : FVec F S1024x4095 .f32 := (fun x v => Host.reduceAdd x v reducesTo_S1024x4095x2_S1024x4095_d2 h_S_) main_v3 main_cst
  let main_cst_0 : FVec F S_ .f32 := constant S_ .f32 0x358637BD#32
  let main_v5 : FVec F S1024x4095 .f32 := broadcastInDim S1024x4095 ![] bcast_S_S1024x4095 main_cst_0
  let main_v6 : IVec S1024x4095 1 := cmpf .oge main_v4 main_v5
  let main_c : IVec S_ 1 := constantI S_ 1 1#1
  let main_v7 : IVec S_ 1 := (fun x v => Host.reduce IntOp.andi x v reducesTo_S1024x4095_S_d0_1 h_S_) main_v6 main_c
  let main_v8 : FVec F S1024x4094 .f32 := (extractStridedSlice S1024x4094 ![0, 1] · slices_S1024x4096_S1024x4094_0_1) main_arg1
  let main_cst_1 : FVec F S_ .f32 := constant S_ .f32 0x3F800000#32
  let main_v9 : FVec F S1024x4094 .f32 := broadcastInDim S1024x4094 ![] bcast_S_S1024x4094 main_cst_1
  let main_v10 : IVec S1024x4094 1 := cmpf .oeq main_v8 main_v9
  let main_c_2 : IVec S_ 1 := constantI S_ 1 1#1
  let main_v11 : IVec S_ 1 := (fun x v => Host.reduce IntOp.andi x v reducesTo_S1024x4094_S_d0_1 h_S_) main_v10 main_c_2
  let main_v12 : IVec S_ 1 := andi main_v7 main_v11
  main_v12
-- ==== Kernel.lean ====
abbrev S1024x4096x2 : Shape := ⟨3, ![1024, 4096, 2]⟩
abbrev S1024x4096 : Shape := ⟨2, ![1024, 4096]⟩
abbrev S_ : Shape := ⟨0, ![]⟩
abbrev S2x1024x4096 : Shape := ⟨3, ![2, 1024, 4096]⟩
abbrev S1x1024x4096 : Shape := ⟨3, ![1, 1024, 4096]⟩
abbrev S1x1 : Shape := ⟨2, ![1, 1]⟩
abbrev S1024x1 : Shape := ⟨2, ![1024, 1]⟩
abbrev S4x1x1 : Shape := ⟨3, ![4, 1, 1]⟩
abbrev S256x4096 : Shape := ⟨2, ![256, 4096]⟩
abbrev S256x1 : Shape := ⟨2, ![256, 1]⟩
abbrev S1x1x1 : Shape := ⟨3, ![1, 1, 1]⟩
abbrev S256x4095 : Shape := ⟨2, ![256, 4095]⟩
abbrev S256x4094 : Shape := ⟨2, ![256, 4094]⟩
abbrev S256 : Shape := ⟨1, ![256]⟩
abbrev S1x256x4096 : Shape := ⟨3, ![1, 256, 4096]⟩
abbrev S1 : Shape := ⟨1, ![1]⟩
abbrev S1024 : Shape := ⟨1, ![1024]⟩

abbrev nBuf : Space → Nat
  | .hbm => 48
  | .vmem => 18
  | .smem => 0
  | _ => 0

abbrev bufTy : (tb : Table) → Fin (tcTables nBuf tb) → BufTy
  | .hbm, ⟨0, _⟩ => ⟨S1024x4096x2, .f32⟩
  | .hbm, ⟨1, _⟩ => ⟨S1024x4096, .f32⟩
  | .hbm, ⟨2, _⟩ => ⟨S_, .f32⟩
  | .hbm, ⟨3, _⟩ => ⟨S_, .f32⟩
  | .hbm, ⟨4, _⟩ => ⟨S2x1024x4096, .f32⟩
  | .hbm, ⟨5, _⟩ => ⟨S1x1024x4096, .f32⟩
  | .hbm, ⟨6, _⟩ => ⟨S1024x4096, .f32⟩
  | .hbm, ⟨7, _⟩ => ⟨S1x1024x4096, .f32⟩
  | .hbm, ⟨8, _⟩ => ⟨S1024x4096, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .i1⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S1x1, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .i1⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S1x1, .f32⟩
  | .hbm, ⟨35, _⟩ => ⟨S1024x4096, .f32⟩
  | .hbm, ⟨36, _⟩ => ⟨S1024x4096, .f32⟩
  | .hbm, ⟨37, _⟩ => ⟨S1024x1, .f32⟩
  | .hbm, ⟨38, _⟩ => ⟨S1024x1, .f32⟩
  | .hbm, ⟨39, _⟩ => ⟨S1024x1, .f32⟩
  | .hbm, ⟨40, _⟩ => ⟨S4x1x1, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S1024, .f32⟩
  | .hbm, ⟨46, _⟩ => ⟨S1024, .f32⟩
  | .hbm, ⟨47, _⟩ => ⟨S1024, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x1, .f32⟩
  | .local _ .vmem, ⟨5, _⟩ => ⟨S1x1, .f32⟩
  | .local _ .vmem, ⟨6, _⟩ => ⟨S256x4096, .f32⟩
  | .local _ .vmem, ⟨7, _⟩ => ⟨S256x4096, .f32⟩
  | .local _ .vmem, ⟨8, _⟩ => ⟨S256x4096, .f32⟩
  | .local _ .vmem, ⟨9, _⟩ => ⟨S256x4096, .f32⟩
  | .local _ .vmem, ⟨10, _⟩ => ⟨S256x1, .f32⟩
  | .local _ .vmem, ⟨11, _⟩ => ⟨S256x1, .f32⟩
  | .local _ .vmem, ⟨12, _⟩ => ⟨S256x1, .f32⟩
  | .local _ .vmem, ⟨13, _⟩ => ⟨S256x1, .f32⟩
  | .local _ .vmem, ⟨14, _⟩ => ⟨S256x1, .f32⟩
  | .local _ .vmem, ⟨15, _⟩ => ⟨S256x1, .f32⟩
  | .local _ .vmem, ⟨16, _⟩ => ⟨S1x1x1, .f32⟩
  | .local _ .vmem, ⟨17, _⟩ => ⟨S1x1x1, .f32⟩
  | _, _ => ⟨S1024x4096x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_cst : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_v5 : Ref sig .tc := ⟨.hbm, 19, rfl⟩
abbrev main_cst : Ref sig .tc := ⟨.hbm, 20, rfl⟩
abbrev main_v6 : Ref sig .tc := ⟨.hbm, 21, rfl⟩
abbrev main_v7 : Ref sig .tc := ⟨.hbm, 22, rfl⟩
abbrev main_call1_cst : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_call1_v5 : Ref sig .tc := ⟨.hbm, 29, rfl⟩
abbrev main_call1_v6 : Ref sig .tc := ⟨.hbm, 30, rfl⟩
abbrev main_call1_v7 : Ref sig .tc := ⟨.hbm, 31, rfl⟩
abbrev main_call1_v8 : Ref sig .tc := ⟨.hbm, 32, rfl⟩
abbrev main_v8 : Ref sig .tc := ⟨.hbm, 33, rfl⟩
abbrev main_v9 : Ref sig .tc := ⟨.hbm, 34, rfl⟩
abbrev main_v10_0 : Ref sig .tc := ⟨.hbm, 35, rfl⟩
abbrev main_v10_1 : Ref sig .tc := ⟨.hbm, 36, rfl⟩
abbrev main_v10_2 : Ref sig .tc := ⟨.hbm, 37, rfl⟩
abbrev main_v10_3 : Ref sig .tc := ⟨.hbm, 38, rfl⟩
abbrev main_v10_4 : Ref sig .tc := ⟨.hbm, 39, rfl⟩
abbrev main_v10_5 : Ref sig .tc := ⟨.hbm, 40, rfl⟩
abbrev main_cst_0 : Ref sig .tc := ⟨.hbm, 41, rfl⟩
abbrev main_v11 : Ref sig .tc := ⟨.hbm, 42, rfl⟩
abbrev main_cst_1 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c13_i32 : BitVec 32 := 13#32
  let v46 : BitVec 32 := Scalar.addi c0_i32 c13_i32
  let c1_i32_10 : BitVec 32 := 1#32
  ⟨c0_i32, v46, c1_i32_10⟩
@[reducible] def k0_t2_loop : Scf.Loop 32 :=
  let c0_i32_19 : BitVec 32 := 0#32
  let c13_i32_20 : BitVec 32 := 13#32
  let v68 : BitVec 32 := Scalar.addi c0_i32_19 c13_i32_20
  let c1_i32_21 : BitVec 32 := 1#32
  ⟨c0_i32_19, v68, c1_i32_21⟩
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S1024x4096x2 : Shape := ⟨3, ![1024, 4096, 2]⟩
abbrev S1024x4096 : Shape := ⟨2, ![1024, 4096]⟩
abbrev S_ : Shape := ⟨0, ![]⟩
abbrev S1024x4095x2 : Shape := ⟨3, ![1024, 4095, 2]⟩
abbrev S1024x4095 : Shape := ⟨2, ![1024, 4095]⟩
abbrev S1024x4095x1 : Shape := ⟨3, ![1024, 4095, 1]⟩
abbrev S1024x4094x2 : Shape := ⟨3, ![1024, 4094, 2]⟩
abbrev S1024x4094 : Shape := ⟨2, ![1024, 4094]⟩
abbrev S1024x4094x1 : Shape := ⟨3, ![1024, 4094, 1]⟩
abbrev S1024 : Shape := ⟨1, ![1024]⟩
abbrev S1024x1 : Shape := ⟨2, ![1024, 1]⟩
abbrev S1024x1x1 : Shape := ⟨3, ![1024, 1, 1]⟩
abbrev S1 : Shape := ⟨1, ![1]⟩
abbrev S1x1x1 : Shape := ⟨3, ![1, 1, 1]⟩

abbrev nBuf : Space → Nat
  | .hbm => 377
  | .vmem => 0
  | .smem => 0
  | _ => 0

abbrev hbmTy0_0 (i : Nat) : BufTy := match i % 128 with
  | 0 => ⟨S1024x4096x2, .f32⟩
  | 1 => ⟨S1024x4096, .f32⟩
  | 2 => ⟨S_, .f32⟩
  | 3 => ⟨S_, .f32⟩
  | 4 => ⟨S_, .f32⟩
  | 5 => ⟨S_, .f32⟩
  | 6 => ⟨S_, .f32⟩
  | 7 => ⟨S_, .i1⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S_, .i1⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S1024x4095x2, .f32⟩
  | 29 => ⟨S1024x4095x2, .f32⟩
  | 30 => ⟨S1024x4095x2, .f32⟩
  | 31 => ⟨S1024x4095x2, .f32⟩
  | 32 => ⟨S_, .f32⟩
  | 33 => ⟨S1024x4095, .f32⟩
  | 34 => ⟨S1024x4095x1, .f32⟩
  | 35 => ⟨S_, .f32⟩
  | 36 => ⟨S1024x4095x1, .f32⟩
  | 37 => ⟨S1024x4095x1, .f32⟩
  | 38 => ⟨S1024x4095x1, .f32⟩
  | 39 => ⟨S1024x4095x2, .f32⟩
  | 40 => ⟨S1024x4095x2, .f32⟩
  | 41 => ⟨S1024x4094x2, .f32⟩
  | 42 => ⟨S1024x4094x2, .f32⟩
  | 43 => ⟨S1024x4094x2, .f32⟩
  | 44 => ⟨S_, .f32⟩
  | 45 => ⟨S1024x4094, .f32⟩
  | 46 => ⟨S1024x4094x2, .f32⟩
  | 47 => ⟨S_, .f32⟩
  | 48 => ⟨S1024x4094, .f32⟩
  | 49 => ⟨S1024x4094x1, .f32⟩
  | 50 => ⟨S_, .f32⟩
  | 51 => ⟨S1024x4094x1, .f32⟩
  | 52 => ⟨S1024x4094x1, .f32⟩
  | 53 => ⟨S1024x4094x1, .f32⟩
  | 54 => ⟨S1024x4094, .f32⟩
  | 55 => ⟨S1024x4094x2, .f32⟩
  | 56 => ⟨S_, .f32⟩
  | 57 => ⟨S1024x4094, .f32⟩
  | 58 => ⟨S1024x4094x1, .f32⟩
  | 59 => ⟨S_, .f32⟩
  | 60 => ⟨S1024x4094x1, .f32⟩
  | 61 => ⟨S1024x4094x1, .f32⟩
  | 62 => ⟨S1024x4094x1, .f32⟩
  | 63 => ⟨S1024x4094, .f32⟩
  | 64 => ⟨S1024x4094, .f32⟩
  | 65 => ⟨S_, .f32⟩
  | 66 => ⟨S1024x4094, .f32⟩
  | 67 => ⟨S1024x4094, .f32⟩
  | 68 => ⟨S1024x4094, .f32⟩
  | 69 => ⟨S_, .f32⟩
  | 70 => ⟨S1024x4094, .f32⟩
  | 71 => ⟨S1024x4094, .f32⟩
  | 72 => ⟨S_, .f32⟩
  | 73 => ⟨S1024x4096, .f32⟩
  | 74 => ⟨S_, .f32⟩
  | 75 => ⟨S1024x4094, .f32⟩
  | 76 => ⟨S_, .f32⟩
  | 77 => ⟨S1024x4096, .f32⟩
  | 78 => ⟨S1024x4096, .f32⟩
  | 79 => ⟨S_, .f32⟩
  | 80 => ⟨S1024x4096, .f32⟩
  | 81 => ⟨S1024x4096, .i1⟩
  | 82 => ⟨S_, .f32⟩
  | 83 => ⟨S_, .f32⟩
  | 84 => ⟨S1024x4096, .f32⟩
  | 85 => ⟨S1024x4096, .f32⟩
  | 86 => ⟨S1024x4096, .f32⟩
  | 87 => ⟨S1024x4096, .i32⟩
  | 88 => ⟨S_, .i32⟩
  | 89 => ⟨S1024, .i32⟩
  | 90 => ⟨S_, .i32⟩
  | 91 => ⟨S1024, .i32⟩
  | 92 => ⟨S1024, .i32⟩
  | 93 => ⟨S_, .i32⟩
  | 94 => ⟨S1024, .i32⟩
  | 95 => ⟨S1024, .i32⟩
  | 96 => ⟨S_, .i32⟩
  | 97 => ⟨S_, .i32⟩
  | 98 => ⟨S1024, .i32⟩
  | 99 => ⟨S1024, .i32⟩
  | 100 => ⟨S1024, .i32⟩
  | 101 => ⟨S_, .i32⟩
  | 102 => ⟨S1024, .i32⟩
  | 103 => ⟨S1024, .i1⟩
  | 104 => ⟨S1024, .i32⟩
  | 105 => ⟨S1024, .i32⟩
  | 106 => ⟨S_, .i32⟩
  | 107 => ⟨S1024, .i32⟩
  | 108 => ⟨S1024, .i1⟩
  | 109 => ⟨S1024, .i1⟩
  | 110 => ⟨S_, .i32⟩
  | 111 => ⟨S1024, .i32⟩
  | 112 => ⟨S1024, .i32⟩
  | 113 => ⟨S1024, .i32⟩
  | 114 => ⟨S_, .i32⟩
  | 115 => ⟨S_, .i32⟩
  | 116 => ⟨S1024, .i32⟩
  | 117 => ⟨S1024, .i32⟩
  | 118 => ⟨S1024, .i32⟩
  | 119 => ⟨S_, .i32⟩
  | 120 => ⟨S1024, .i32⟩
  | 121 => ⟨S1024, .i1⟩
  | 122 => ⟨S1024, .i32⟩
  | 123 => ⟨S1024, .i32⟩
  | 124 => ⟨S_, .i32⟩
  | 125 => ⟨S1024, .i32⟩
  | 126 => ⟨S1024, .i1⟩
  | 127 => ⟨S1024, .i1⟩
  | _ => ⟨S1024x4096x2, .f32⟩

abbrev hbmTy0_1 (i : Nat) : BufTy := match i % 128 with
  | 0 => ⟨S_, .i32⟩
  | 1 => ⟨S1024, .i32⟩
  | 2 => ⟨S1024, .i32⟩
  | 3 => ⟨S1024, .i32⟩
  | 4 => ⟨S1024x1, .i32⟩
  | 5 => ⟨S_, .i32⟩
  | 6 => ⟨S1024x1, .i32⟩
  | 7 => ⟨S1024x1, .i1⟩
  | 8 => ⟨S_, .i32⟩
  | 9 => ⟨S1024x1, .i32⟩
  | 10 => ⟨S1024x1, .i32⟩
  | 11 => ⟨S1024x1, .i32⟩
  | 12 => ⟨S1024x1x1, .i32⟩
  | 13 => ⟨S1, .i32⟩
  | 14 => ⟨S_, .i32⟩
  | 15 => ⟨S1024x1x1, .i32⟩
  | 16 => ⟨S1024x1x1, .i1⟩
  | 17 => ⟨S1x1x1, .i32⟩
  | 18 => ⟨S1024x1x1, .i32⟩
  | 19 => ⟨S1024x1x1, .i1⟩
  | 20 => ⟨S1024x1x1, .i1⟩
  | 21 => ⟨S_, .i1⟩
  | 22 => ⟨S1024x1, .i1⟩
  | 23 => ⟨S1024x1, .f32⟩
  | 24 => ⟨S_, .f32⟩
  | 25 => ⟨S1024x1, .f32⟩
  | 26 => ⟨S1024x1, .f32⟩
  | 27 => ⟨S1024, .f32⟩
  | 28 => ⟨S1024x1, .i32⟩
  | 29 => ⟨S_, .i32⟩
  | 30 => ⟨S1024x1, .i32⟩
  | 31 => ⟨S1024x1, .i1⟩
  | 32 => ⟨S_, .i32⟩
  | 33 => ⟨S1024x1, .i32⟩
  | 34 => ⟨S1024x1, .i32⟩
  | 35 => ⟨S1024x1, .i32⟩
  | 36 => ⟨S1024x1x1, .i32⟩
  | 37 => ⟨S1, .i32⟩
  | 38 => ⟨S_, .i32⟩
  | 39 => ⟨S1024x1x1, .i32⟩
  | 40 => ⟨S1024x1x1, .i1⟩
  | 41 => ⟨S1x1x1, .i32⟩
  | 42 => ⟨S1024x1x1, .i32⟩
  | 43 => ⟨S1024x1x1, .i1⟩
  | 44 => ⟨S1024x1x1, .i1⟩
  | 45 => ⟨S_, .i1⟩
  | 46 => ⟨S1024x1, .i1⟩
  | 47 => ⟨S1024x1, .f32⟩
  | 48 => ⟨S_, .f32⟩
  | 49 => ⟨S1024x1, .f32⟩
  | 50 => ⟨S1024x1, .f32⟩
  | 51 => ⟨S1024, .f32⟩
  | 52 => ⟨S_, .f32⟩
  | 53 => ⟨S1024, .f32⟩
  | 54 => ⟨S_, .f32⟩
  | 55 => ⟨S1024, .f32⟩
  | 56 => ⟨S1024, .f32⟩
  | 57 => ⟨S_, .f32⟩
  | 58 => ⟨S1024, .f32⟩
  | 59 => ⟨S1024, .f32⟩
  | 60 => ⟨S1024, .f32⟩
  | 61 => ⟨S_, .f32⟩
  | 62 => ⟨S1024, .f32⟩
  | 63 => ⟨S1024, .f32⟩
  | 64 => ⟨S1024, .f32⟩
  | 65 => ⟨S_, .f32⟩
  | 66 => ⟨S1024, .f32⟩
  | 67 => ⟨S1024, .f32⟩
  | 68 => ⟨S1024, .f32⟩
  | 69 => ⟨S_, .f32⟩
  | 70 => ⟨S1024, .f32⟩
  | 71 => ⟨S1024, .f32⟩
  | 72 => ⟨S1024, .f32⟩
  | 73 => ⟨S1024, .f32⟩
  | 74 => ⟨S_, .f32⟩
  | 75 => ⟨S1024, .f32⟩
  | 76 => ⟨S1024, .f32⟩
  | 77 => ⟨S1024x1, .f32⟩
  | 78 => ⟨S1024x4096, .f32⟩
  | 79 => ⟨S1024x4096, .f32⟩
  | 80 => ⟨S1024x4096, .f32⟩
  | 81 => ⟨S_, .f32⟩
  | 82 => ⟨S1024x4096, .f32⟩
  | 83 => ⟨S1024x4096, .i1⟩
  | 84 => ⟨S_, .f32⟩
  | 85 => ⟨S_, .f32⟩
  | 86 => ⟨S1024x4096, .f32⟩
  | 87 => ⟨S1024x4096, .f32⟩
  | 88 => ⟨S1024x4096, .f32⟩
  | 89 => ⟨S1024x4096, .i32⟩
  | 90 => ⟨S_, .i32⟩
  | 91 => ⟨S1024, .i32⟩
  | 92 => ⟨S_, .i32⟩
  | 93 => ⟨S1024, .i32⟩
  | 94 => ⟨S1024, .i32⟩
  | 95 => ⟨S_, .i32⟩
  | 96 => ⟨S1024, .i32⟩
  | 97 => ⟨S1024, .i32⟩
  | 98 => ⟨S_, .i32⟩
  | 99 => ⟨S_, .i32⟩
  | 100 => ⟨S1024, .i32⟩
  | 101 => ⟨S1024, .i32⟩
  | 102 => ⟨S1024, .i32⟩
  | 103 => ⟨S_, .i32⟩
  | 104 => ⟨S1024, .i32⟩
  | 105 => ⟨S1024, .i1⟩
  | 106 => ⟨S1024, .i32⟩
  | 107 => ⟨S1024, .i32⟩
  | 108 => ⟨S_, .i32⟩
  | 109 => ⟨S1024, .i32⟩
  | 110 => ⟨S1024, .i1⟩
  | 111 => ⟨S1024, .i1⟩
  | 112 => ⟨S_, .i32⟩
  | 113 => ⟨S1024, .i32⟩
  | 114 => ⟨S1024, .i32⟩
  | 115 => ⟨S1024, .i32⟩
  | 116 => ⟨S_, .i32⟩
  | 117 => ⟨S_, .i32⟩
  | 118 => ⟨S1024, .i32⟩
  | 119 => ⟨S1024, .i32⟩
  | 120 => ⟨S1024, .i32⟩
  | 121 => ⟨S_, .i32⟩
  | 122 => ⟨S1024, .i32⟩
  | 123 => ⟨S1024, .i1⟩
  | 124 => ⟨S1024, .i32⟩
  | 125 => ⟨S1024, .i32⟩
  | 126 => ⟨S_, .i32⟩
  | 127 => ⟨S1024, .i32⟩
  | _ => ⟨S1024x4096x2, .f32⟩

abbrev hbmTy0_2 (i : Nat) : BufTy := match i % 128 with
  | 0 => ⟨S1024, .i1⟩
  | 1 => ⟨S1024, .i1⟩
  | 2 => ⟨S_, .i32⟩
  | 3 => ⟨S1024, .i32⟩
  | 4 => ⟨S1024, .i32⟩
  | 5 => ⟨S1024, .i32⟩
  | 6 => ⟨S1024x1, .i32⟩
  | 7 => ⟨S_, .i32⟩
  | 8 => ⟨S1024x1, .i32⟩
  | 9 => ⟨S1024x1, .i1⟩
  | 10 => ⟨S_, .i32⟩
  | 11 => ⟨S1024x1, .i32⟩
  | 12 => ⟨S1024x1, .i32⟩
  | 13 => ⟨S1024x1, .i32⟩
  | 14 => ⟨S1024x1x1, .i32⟩
  | 15 => ⟨S1, .i32⟩
  | 16 => ⟨S_, .i32⟩
  | 17 => ⟨S1024x1x1, .i32⟩
  | 18 => ⟨S1024x1x1, .i1⟩
  | 19 => ⟨S1x1x1, .i32⟩
  | 20 => ⟨S1024x1x1, .i32⟩
  | 21 => ⟨S1024x1x1, .i1⟩
  | 22 => ⟨S1024x1x1, .i1⟩
  | 23 => ⟨S_, .i1⟩
  | 24 => ⟨S1024x1, .i1⟩
  | 25 => ⟨S1024x1, .f32⟩
  | 26 => ⟨S_, .f32⟩
  | 27 => ⟨S1024x1, .f32⟩
  | 28 => ⟨S1024x1, .f32⟩
  | 29 => ⟨S1024, .f32⟩
  | 30 => ⟨S1024x1, .i32⟩
  | 31 => ⟨S_, .i32⟩
  | 32 => ⟨S1024x1, .i32⟩
  | 33 => ⟨S1024x1, .i1⟩
  | 34 => ⟨S_, .i32⟩
  | 35 => ⟨S1024x1, .i32⟩
  | 36 => ⟨S1024x1, .i32⟩
  | 37 => ⟨S1024x1, .i32⟩
  | 38 => ⟨S1024x1x1, .i32⟩
  | 39 => ⟨S1, .i32⟩
  | 40 => ⟨S_, .i32⟩
  | 41 => ⟨S1024x1x1, .i32⟩
  | 42 => ⟨S1024x1x1, .i1⟩
  | 43 => ⟨S1x1x1, .i32⟩
  | 44 => ⟨S1024x1x1, .i32⟩
  | 45 => ⟨S1024x1x1, .i1⟩
  | 46 => ⟨S1024x1x1, .i1⟩
  | 47 => ⟨S_, .i1⟩
  | 48 => ⟨S1024x1, .i1⟩
  | 49 => ⟨S1024x1, .f32⟩
  | 50 => ⟨S_, .f32⟩
  | 51 => ⟨S1024x1, .f32⟩
  | 52 => ⟨S1024x1, .f32⟩
  | 53 => ⟨S1024, .f32⟩
  | 54 => ⟨S_, .f32⟩
  | 55 => ⟨S1024, .f32⟩
  | 56 => ⟨S_, .f32⟩
  | 57 => ⟨S1024, .f32⟩
  | 58 => ⟨S1024, .f32⟩
  | 59 => ⟨S_, .f32⟩
  | 60 => ⟨S1024, .f32⟩
  | 61 => ⟨S1024, .f32⟩
  | 62 => ⟨S1024, .f32⟩
  | 63 => ⟨S_, .f32⟩
  | 64 => ⟨S1024, .f32⟩
  | 65 => ⟨S1024, .f32⟩
  | 66 => ⟨S1024, .f32⟩
  | 67 => ⟨S_, .f32⟩
  | 68 => ⟨S1024, .f32⟩
  | 69 => ⟨S1024, .f32⟩
  | 70 => ⟨S1024, .f32⟩
  | 71 => ⟨S_, .f32⟩
  | 72 => ⟨S1024, .f32⟩
  | 73 => ⟨S1024, .f32⟩
  | 74 => ⟨S1024, .f32⟩
  | 75 => ⟨S1024, .f32⟩
  | 76 => ⟨S_, .f32⟩
  | 77 => ⟨S1024, .f32⟩
  | 78 => ⟨S1024, .f32⟩
  | 79 => ⟨S1024, .f32⟩
  | 80 => ⟨S1024, .f32⟩
  | 81 => ⟨S1024, .f32⟩
  | 82 => ⟨S_, .f32⟩
  | 83 => ⟨S1024, .f32⟩
  | 84 => ⟨S1024, .f32⟩
  | 85 => ⟨S_, .f32⟩
  | 86 => ⟨S1024, .f32⟩
  | 87 => ⟨S1024, .f32⟩
  | 88 => ⟨S1024, .f32⟩
  | 89 => ⟨S1024, .f32⟩
  | 90 => ⟨S_, .f32⟩
  | 91 => ⟨S1024, .f32⟩
  | 92 => ⟨S1024, .f32⟩
  | 93 => ⟨S1024x4096, .f32⟩
  | 94 => ⟨S1024x1, .f32⟩
  | 95 => ⟨S1024x4096, .f32⟩
  | 96 => ⟨S1024x4096, .f32⟩
  | 97 => ⟨S1024x4096, .f32⟩
  | 98 => ⟨S_, .f32⟩
  | 99 => ⟨S1024x4096, .f32⟩
  | 100 => ⟨S1024x4096, .f32⟩
  | 101 => ⟨S_, .f32⟩
  | 102 => ⟨S1024x4096, .f32⟩
  | 103 => ⟨S1024x4096, .f32⟩
  | 104 => ⟨S1024x4096, .f32⟩
  | 105 => ⟨S_, .f32⟩
  | 106 => ⟨S1024x4096, .f32⟩
  | 107 => ⟨S1024x4096, .f32⟩
  | 108 => ⟨S_, .f32⟩
  | 109 => ⟨S1024x4096, .f32⟩
  | 110 => ⟨S1024x4096, .f32⟩
  | 111 => ⟨S1024x4096, .f32⟩
  | 112 => ⟨S1024x4096, .f32⟩
  | 113 => ⟨S1024x4096, .f32⟩
  | 114 => ⟨S_, .f32⟩
  | 115 => ⟨S_, .f32⟩
  | 116 => ⟨S_, .f32⟩
  | 117 => ⟨S_, .f32⟩
  | 118 => ⟨S_, .f32⟩
  | 119 => ⟨S_, .f32⟩
  | 120 => ⟨S_, .f32⟩
  | _ => ⟨S1024x4096x2, .f32⟩

abbrev hbmTy (i : Nat) : BufTy := match i / 128 with
  | 0 => hbmTy0_0 i
  | 1 => hbmTy0_1 i
  | 2 => hbmTy0_2 i
  | _ => ⟨S1024x4096x2, .f32⟩

abbrev bufTy : (tb : Table) → Fin (tcTables nBuf tb) → BufTy
  | .hbm, ⟨i, _⟩ => hbmTy i
  | _, _ => ⟨S1024x4096x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_call1_cst : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_call1_v5 : Ref sig .tc := ⟨.hbm, 23, rfl⟩
abbrev main_call1_v6 : Ref sig .tc := ⟨.hbm, 24, rfl⟩
abbrev main_call1_v7 : Ref sig .tc := ⟨.hbm, 25, rfl⟩
abbrev main_call1_v8 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_cst_0 : Ref sig .tc := ⟨.hbm, 32, rfl⟩
abbrev main_v7 : Ref sig .tc := ⟨.hbm, 33, rfl⟩
abbrev main_v8 : Ref sig .tc := ⟨.hbm, 34, rfl⟩
abbrev main_cst_1 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_cst_2 : Ref sig .tc := ⟨.hbm, 44, rfl⟩
abbrev main_v17 : Ref sig .tc := ⟨.hbm, 45, rfl⟩
abbrev main_v18 : Ref sig .tc := ⟨.hbm, 46, rfl⟩
abbrev main_cst_3 : Ref sig .tc := ⟨.hbm, 47, rfl⟩
abbrev main_v19 : Ref sig .tc := ⟨.hbm, 48, rfl⟩
abbrev main_v20 : Ref sig .tc := ⟨.hbm, 49, rfl⟩
abbrev main_cst_4 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_cst_5 : Ref sig .tc := ⟨.hbm, 56, rfl⟩
abbrev main_v26 : Ref sig .tc := ⟨.hbm, 57, rfl⟩
abbrev main_v27 : Ref sig .tc := ⟨.hbm, 58, rfl⟩
abbrev main_cst_6 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_cst_7 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_cst_8 : Ref sig .tc := ⟨.hbm, 69, rfl⟩
abbrev main_v36 : Ref sig .tc := ⟨.hbm, 70, rfl⟩
abbrev main_v37 : Ref sig .tc := ⟨.hbm, 71, rfl⟩
abbrev main_cst_9 : Ref sig .tc := ⟨.hbm, 72, rfl⟩
abbrev main_v38 : Ref sig .tc := ⟨.hbm, 73, rfl⟩
abbrev main_cst_10 : Ref sig .tc := ⟨.hbm, 74, rfl⟩
abbrev main_v39 : Ref sig .tc := ⟨.hbm, 75, rfl⟩
abbrev main_cst_11 : Ref sig .tc := ⟨.hbm, 76, rfl⟩
abbrev main_v40 : Ref sig .tc := ⟨.hbm, 77, rfl⟩
abbrev main_v41 : Ref sig .tc := ⟨.hbm, 78, rfl⟩
abbrev main_cst_12 : Ref sig .tc := ⟨.hbm, 79, rfl⟩
abbrev main_v42 : Ref sig .tc := ⟨.hbm, 80, rfl⟩
abbrev main_v43 : Ref sig .tc := ⟨.hbm, 81, rfl⟩
abbrev main_cst_13 : Ref sig .tc := ⟨.hbm, 82, rfl⟩
abbrev main_call2_v0 : Ref sig .tc := ⟨.hbm, 83, rfl⟩
abbrev main_call2_v1 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_c : Ref sig .tc := ⟨.hbm, 88, rfl⟩
abbrev main_v47 : Ref sig .tc := ⟨.hbm, 89, rfl⟩
abbrev main_c_14 : Ref sig .tc := ⟨.hbm, 90, rfl⟩
abbrev main_v48 : Ref sig .tc := ⟨.hbm, 91, rfl⟩
abbrev main_v49 : Ref sig .tc := ⟨.hbm, 92, rfl⟩
abbrev main_c_15 : Ref sig .tc := ⟨.hbm, 93, rfl⟩
abbrev main_v50 : Ref sig .tc := ⟨.hbm, 94, rfl⟩
abbrev main_v51 : Ref sig .tc := ⟨.hbm, 95, rfl⟩
abbrev main_c_16 : Ref sig .tc := ⟨.hbm, 96, rfl⟩
abbrev main_call4_v0 : Ref sig .tc := ⟨.hbm, 97, rfl⟩
abbrev main_call4_v1 : Ref sig .tc := ⟨.hbm, 98, rfl⟩
abbrev main_call4_v2 : Ref sig .tc := ⟨.hbm, 99, rfl⟩
abbrev main_call4_v3 : Ref sig .tc := ⟨.hbm, 100, rfl⟩
abbrev main_call4_v4 : Ref sig .tc := ⟨.hbm, 101, rfl⟩
abbrev main_call4_v5 : Ref sig .tc := ⟨.hbm, 102, rfl⟩
abbrev main_call4_v6 : Ref sig .tc := ⟨.hbm, 103, rfl⟩
abbrev main_call4_v7 : Ref sig .tc := ⟨.hbm, 104, rfl⟩
abbrev main_call4_v8 : Ref sig .tc := ⟨.hbm, 105, rfl⟩
abbrev main_call4_c : Ref sig .tc := ⟨.hbm, 106, rfl⟩
abbrev main_call4_v9 : Ref sig .tc := ⟨.hbm, 107, rfl⟩
abbrev main_call4_v10 : Ref sig .tc := ⟨.hbm, 108, rfl⟩
abbrev main_call4_v11 : Ref sig .tc := ⟨.hbm, 109, rfl⟩
abbrev main_call4_c_0 : Ref sig .tc := ⟨.hbm, 110, rfl⟩
abbrev main_call4_v12 : Ref sig .tc := ⟨.hbm, 111, rfl⟩
abbrev main_call4_v13 : Ref sig .tc := ⟨.hbm, 112, rfl⟩
abbrev main_v52 : Ref sig .tc := ⟨.hbm, 113, rfl⟩
abbrev main_c_17 : Ref sig .tc := ⟨.hbm, 114, rfl⟩
abbrev main_call5_v0 : Ref sig .tc := ⟨.hbm, 115, rfl⟩
abbrev main_call5_v1 : Ref sig .tc := ⟨.hbm, 116, rfl⟩
abbrev main_call5_v2 : Ref sig .tc := ⟨.hbm, 117, rfl⟩
abbrev main_call5_v3 : Ref sig .tc := ⟨.hbm, 118, rfl⟩
abbrev main_call5_v4 : Ref sig .tc := ⟨.hbm, 119, rfl⟩
abbrev main_call5_v5 : Ref sig .tc := ⟨.hbm, 120, rfl⟩
abbrev main_call5_v6 : Ref sig .tc := ⟨.hbm, 121, rfl⟩
abbrev main_call5_v7 : Ref sig .tc := ⟨.hbm, 122, rfl⟩
abbrev main_call5_v8 : Ref sig .tc := ⟨.hbm, 123, rfl⟩
abbrev main_call5_c : Ref sig .tc := ⟨.hbm, 124, rfl⟩
abbrev main_call5_v9 : Ref sig .tc := ⟨.hbm, 125, rfl⟩
abbrev main_call5_v10 : Ref sig .tc := ⟨.hbm, 126, rfl⟩
abbrev main_call5_v11 : Ref sig .tc := ⟨.hbm, 127, rfl⟩
abbrev main_call5_c_0 : Ref sig .tc := ⟨.hbm, 128, rfl⟩
abbrev main_call5_v12 : Ref sig .tc := ⟨.hbm, 129, rfl⟩
abbrev main_call5_v13 : Ref sig .tc := ⟨.hbm, 130, rfl⟩
abbrev main_v53 : Ref sig .tc := ⟨.hbm, 131, rfl⟩
abbrev main_v54 : Ref sig .tc := ⟨.hbm, 132, rfl⟩
abbrev main_call6_c : Ref sig .tc := ⟨.hbm, 133, rfl⟩
abbrev main_call6_v0 : Ref sig .tc := ⟨.hbm, 134, rfl⟩
abbrev main_call6_v1 : Ref sig .tc := ⟨.hbm, 135, rfl⟩
abbrev main_call6_c_0 : Ref sig .tc := ⟨.hbm, 136, rfl⟩
abbrev main_call6_v2 : Ref sig .tc := ⟨.hbm, 137, rfl⟩
abbrev main_call6_v3 : Ref sig .tc := ⟨.hbm, 138, rfl⟩
abbrev main_call6_v4 : Ref sig .tc := ⟨.hbm, 139, rfl⟩
abbrev main_call6_v5 : Ref sig .tc := ⟨.hbm, 140, rfl⟩
abbrev main_call6_c_1 : Ref sig .tc := ⟨.hbm, 141, rfl⟩
abbrev main_call6_c_2 : Ref sig .tc := ⟨.hbm, 142, rfl⟩
abbrev main_call6_v6 : Ref sig .tc := ⟨.hbm, 143, rfl⟩
abbrev main_call6_v7 : Ref sig .tc := ⟨.hbm, 144, rfl⟩
abbrev main_call6_v8 : Ref sig .tc := ⟨.hbm, 145, rfl⟩
abbrev main_call6_v9 : Ref sig .tc := ⟨.hbm, 146, rfl⟩
abbrev main_call6_v10 : Ref sig .tc := ⟨.hbm, 147, rfl⟩
abbrev main_call6_v11 : Ref sig .tc := ⟨.hbm, 148, rfl⟩
abbrev main_call6_c_3 : Ref sig .tc := ⟨.hbm, 149, rfl⟩
abbrev main_call6_v12 : Ref sig .tc := ⟨.hbm, 150, rfl⟩
abbrev main_call6_v13 : Ref sig .tc := ⟨.hbm, 151, rfl⟩
abbrev main_call6_cst : Ref sig .tc := ⟨.hbm, 152, rfl⟩
abbrev main_call6_v14 : Ref sig .tc := ⟨.hbm, 153, rfl⟩
abbrev main_v55 : Ref sig .tc := ⟨.hbm, 154, rfl⟩
abbrev main_v56 : Ref sig .tc := ⟨.hbm, 155, rfl⟩
abbrev main_v57 : Ref sig .tc := ⟨.hbm, 156, rfl⟩
abbrev main_call7_c : Ref sig .tc := ⟨.hbm, 157, rfl⟩
abbrev main_call7_v0 : Ref sig .tc := ⟨.hbm, 158, rfl⟩
abbrev main_call7_v1 : Ref sig .tc := ⟨.hbm, 159, rfl⟩
abbrev main_call7_c_0 : Ref sig .tc := ⟨.hbm, 160, rfl⟩
abbrev main_call7_v2 : Ref sig .tc := ⟨.hbm, 161, rfl⟩
abbrev main_call7_v3 : Ref sig .tc := ⟨.hbm, 162, rfl⟩
abbrev main_call7_v4 : Ref sig .tc := ⟨.hbm, 163, rfl⟩
abbrev main_call7_v5 : Ref sig .tc := ⟨.hbm, 164, rfl⟩
abbrev main_call7_c_1 : Ref sig .tc := ⟨.hbm, 165, rfl⟩
abbrev main_call7_c_2 : Ref sig .tc := ⟨.hbm, 166, rfl⟩
abbrev main_call7_v6 : Ref sig .tc := ⟨.hbm, 167, rfl⟩
abbrev main_call7_v7 : Ref sig .tc := ⟨.hbm, 168, rfl⟩
abbrev main_call7_v8 : Ref sig .tc := ⟨.hbm, 169, rfl⟩
abbrev main_call7_v9 : Ref sig .tc := ⟨.hbm, 170, rfl⟩
abbrev main_call7_v10 : Ref sig .tc := ⟨.hbm, 171, rfl⟩
abbrev main_call7_v11 : Ref sig .tc := ⟨.hbm, 172, rfl⟩
abbrev main_call7_c_3 : Ref sig .tc := ⟨.hbm, 173, rfl⟩
abbrev main_call7_v12 : Ref sig .tc := ⟨.hbm, 174, rfl⟩
abbrev main_call7_v13 : Ref sig .tc := ⟨.hbm, 175, rfl⟩
abbrev main_call7_cst : Ref sig .tc := ⟨.hbm, 176, rfl⟩
abbrev main_call7_v14 : Ref sig .tc := ⟨.hbm, 177, rfl⟩
abbrev main_v58 : Ref sig .tc := ⟨.hbm, 178, rfl⟩
abbrev main_v59 : Ref sig .tc := ⟨.hbm, 179, rfl⟩
abbrev main_cst_18 : Ref sig .tc := ⟨.hbm, 180, rfl⟩
abbrev main_v60 : Ref sig .tc := ⟨.hbm, 181, rfl⟩
abbrev main_cst_19 : Ref sig .tc := ⟨.hbm, 182, rfl⟩
abbrev main_v61 : Ref sig .tc := ⟨.hbm, 183, rfl⟩
abbrev main_v62 : Ref sig .tc := ⟨.hbm, 184, rfl⟩
abbrev main_cst_20 : Ref sig .tc := ⟨.hbm, 185, rfl⟩
abbrev main_v63 : Ref sig .tc := ⟨.hbm, 186, rfl⟩
abbrev main_v64 : Ref sig .tc := ⟨.hbm, 187, rfl⟩
abbrev main_v65 : Ref sig .tc := ⟨.hbm, 188, rfl⟩
abbrev main_cst_21 : Ref sig .tc := ⟨.hbm, 189, rfl⟩
abbrev main_v66 : Ref sig .tc := ⟨.hbm, 190, rfl⟩
abbrev main_v67 : Ref sig .tc := ⟨.hbm, 191, rfl⟩
abbrev main_v68 : Ref sig .tc := ⟨.hbm, 192, rfl⟩
abbrev main_cst_22 : Ref sig .tc := ⟨.hbm, 193, rfl⟩
abbrev main_v69 : Ref sig .tc := ⟨.hbm, 194, rfl⟩
abbrev main_v70 : Ref sig .tc := ⟨.hbm, 195, rfl⟩
abbrev main_v71 : Ref sig .tc := ⟨.hbm, 196, rfl⟩
abbrev main_cst_23 : Ref sig .tc := ⟨.hbm, 197, rfl⟩
abbrev main_v72 : Ref sig .tc := ⟨.hbm, 198, rfl⟩
abbrev main_v73 : Ref sig .tc := ⟨.hbm, 199, rfl⟩
abbrev main_v74 : Ref sig .tc := ⟨.hbm, 200, rfl⟩
abbrev main_v75 : Ref sig .tc := ⟨.hbm, 201, rfl⟩
abbrev main_cst_24 : Ref sig .tc := ⟨.hbm, 202, rfl⟩
abbrev main_v76 : Ref sig .tc := ⟨.hbm, 203, rfl⟩
abbrev main_v77 : Ref sig .tc := ⟨.hbm, 204, rfl⟩
abbrev main_v78 : Ref sig .tc := ⟨.hbm, 205, rfl⟩
abbrev main_v79 : Ref sig .tc := ⟨.hbm, 206, rfl⟩
abbrev main_v80 : Ref sig .tc := ⟨.hbm, 207, rfl⟩
abbrev main_v81 : Ref sig .tc := ⟨.hbm, 208, rfl⟩
abbrev main_cst_25 : Ref sig .tc := ⟨.hbm, 209, rfl⟩
abbrev main_v82 : Ref sig .tc := ⟨.hbm, 210, rfl⟩
abbrev main_v83 : Ref sig .tc := ⟨.hbm, 211, rfl⟩
abbrev main_cst_26 : Ref sig .tc := ⟨.hbm, 212, rfl⟩
abbrev main_call8_v0 : Ref sig .tc := ⟨.hbm, 213, rfl⟩
abbrev main_call8_v1 : Ref sig .tc := ⟨.hbm, 214, rfl⟩
abbrev main_v84 : Ref sig .tc := ⟨.hbm, 215, rfl⟩
abbrev main_v85 : Ref sig .tc := ⟨.hbm, 216, rfl⟩
abbrev main_v86 : Ref sig .tc := ⟨.hbm, 217, rfl⟩
abbrev main_c_27 : Ref sig .tc := ⟨.hbm, 218, rfl⟩
abbrev main_v87 : Ref sig .tc := ⟨.hbm, 219, rfl⟩
abbrev main_c_28 : Ref sig .tc := ⟨.hbm, 220, rfl⟩
abbrev main_v88 : Ref sig .tc := ⟨.hbm, 221, rfl⟩
abbrev main_v89 : Ref sig .tc := ⟨.hbm, 222, rfl⟩
abbrev main_c_29 : Ref sig .tc := ⟨.hbm, 223, rfl⟩
abbrev main_v90 : Ref sig .tc := ⟨.hbm, 224, rfl⟩
abbrev main_v91 : Ref sig .tc := ⟨.hbm, 225, rfl⟩
abbrev main_c_30 : Ref sig .tc := ⟨.hbm, 226, rfl⟩
abbrev main_call10_v0 : Ref sig .tc := ⟨.hbm, 227, rfl⟩
abbrev main_call10_v1 : Ref sig .tc := ⟨.hbm, 228, rfl⟩
abbrev main_call10_v2 : Ref sig .tc := ⟨.hbm, 229, rfl⟩
abbrev main_call10_v3 : Ref sig .tc := ⟨.hbm, 230, rfl⟩
abbrev main_call10_v4 : Ref sig .tc := ⟨.hbm, 231, rfl⟩
abbrev main_call10_v5 : Ref sig .tc := ⟨.hbm, 232, rfl⟩
abbrev main_call10_v6 : Ref sig .tc := ⟨.hbm, 233, rfl⟩
abbrev main_call10_v7 : Ref sig .tc := ⟨.hbm, 234, rfl⟩
abbrev main_call10_v8 : Ref sig .tc := ⟨.hbm, 235, rfl⟩
abbrev main_call10_c : Ref sig .tc := ⟨.hbm, 236, rfl⟩
abbrev main_call10_v9 : Ref sig .tc := ⟨.hbm, 237, rfl⟩
abbrev main_call10_v10 : Ref sig .tc := ⟨.hbm, 238, rfl⟩
abbrev main_call10_v11 : Ref sig .tc := ⟨.hbm, 239, rfl⟩
abbrev main_call10_c_0 : Ref sig .tc := ⟨.hbm, 240, rfl⟩
abbrev main_call10_v12 : Ref sig .tc := ⟨.hbm, 241, rfl⟩
abbrev main_call10_v13 : Ref sig .tc := ⟨.hbm, 242, rfl⟩
abbrev main_v92 : Ref sig .tc := ⟨.hbm, 243, rfl⟩
abbrev main_c_31 : Ref sig .tc := ⟨.hbm, 244, rfl⟩
abbrev main_call11_v0 : Ref sig .tc := ⟨.hbm, 245, rfl⟩
abbrev main_call11_v1 : Ref sig .tc := ⟨.hbm, 246, rfl⟩
abbrev main_call11_v2 : Ref sig .tc := ⟨.hbm, 247, rfl⟩
abbrev main_call11_v3 : Ref sig .tc := ⟨.hbm, 248, rfl⟩
abbrev main_call11_v4 : Ref sig .tc := ⟨.hbm, 249, rfl⟩
abbrev main_call11_v5 : Ref sig .tc := ⟨.hbm, 250, rfl⟩
abbrev main_call11_v6 : Ref sig .tc := ⟨.hbm, 251, rfl⟩
abbrev main_call11_v7 : Ref sig .tc := ⟨.hbm, 252, rfl⟩
abbrev main_call11_v8 : Ref sig .tc := ⟨.hbm, 253, rfl⟩
abbrev main_call11_c : Ref sig .tc := ⟨.hbm, 254, rfl⟩
abbrev main_call11_v9 : Ref sig .tc := ⟨.hbm, 255, rfl⟩
abbrev main_call11_v10 : Ref sig .tc := ⟨.hbm, 256, rfl⟩
abbrev main_call11_v11 : Ref sig .tc := ⟨.hbm, 257, rfl⟩
abbrev main_call11_c_0 : Ref sig .tc := ⟨.hbm, 258, rfl⟩
abbrev main_call11_v12 : Ref sig .tc := ⟨.hbm, 259, rfl⟩
abbrev main_call11_v13 : Ref sig .tc := ⟨.hbm, 260, rfl⟩
abbrev main_v93 : Ref sig .tc := ⟨.hbm, 261, rfl⟩
abbrev main_v94 : Ref sig .tc := ⟨.hbm, 262, rfl⟩
abbrev main_call12_c : Ref sig .tc := ⟨.hbm, 263, rfl⟩
abbrev main_call12_v0 : Ref sig .tc := ⟨.hbm, 264, rfl⟩
abbrev main_call12_v1 : Ref sig .tc := ⟨.hbm, 265, rfl⟩
abbrev main_call12_c_0 : Ref sig .tc := ⟨.hbm, 266, rfl⟩
abbrev main_call12_v2 : Ref sig .tc := ⟨.hbm, 267, rfl⟩
abbrev main_call12_v3 : Ref sig .tc := ⟨.hbm, 268, rfl⟩
abbrev main_call12_v4 : Ref sig .tc := ⟨.hbm, 269, rfl⟩
abbrev main_call12_v5 : Ref sig .tc := ⟨.hbm, 270, rfl⟩
abbrev main_call12_c_1 : Ref sig .tc := ⟨.hbm, 271, rfl⟩
abbrev main_call12_c_2 : Ref sig .tc := ⟨.hbm, 272, rfl⟩
abbrev main_call12_v6 : Ref sig .tc := ⟨.hbm, 273, rfl⟩
abbrev main_call12_v7 : Ref sig .tc := ⟨.hbm, 274, rfl⟩
abbrev main_call12_v8 : Ref sig .tc := ⟨.hbm, 275, rfl⟩
abbrev main_call12_v9 : Ref sig .tc := ⟨.hbm, 276, rfl⟩
abbrev main_call12_v10 : Ref sig .tc := ⟨.hbm, 277, rfl⟩
abbrev main_call12_v11 : Ref sig .tc := ⟨.hbm, 278, rfl⟩
abbrev main_call12_c_3 : Ref sig .tc := ⟨.hbm, 279, rfl⟩
abbrev main_call12_v12 : Ref sig .tc := ⟨.hbm, 280, rfl⟩
abbrev main_call12_v13 : Ref sig .tc := ⟨.hbm, 281, rfl⟩
abbrev main_call12_cst : Ref sig .tc := ⟨.hbm, 282, rfl⟩
abbrev main_call12_v14 : Ref sig .tc := ⟨.hbm, 283, rfl⟩
abbrev main_v95 : Ref sig .tc := ⟨.hbm, 284, rfl⟩
abbrev main_v96 : Ref sig .tc := ⟨.hbm, 285, rfl⟩
abbrev main_v97 : Ref sig .tc := ⟨.hbm, 286, rfl⟩
abbrev main_call13_c : Ref sig .tc := ⟨.hbm, 287, rfl⟩
abbrev main_call13_v0 : Ref sig .tc := ⟨.hbm, 288, rfl⟩
abbrev main_call13_v1 : Ref sig .tc := ⟨.hbm, 289, rfl⟩
abbrev main_call13_c_0 : Ref sig .tc := ⟨.hbm, 290, rfl⟩
abbrev main_call13_v2 : Ref sig .tc := ⟨.hbm, 291, rfl⟩
abbrev main_call13_v3 : Ref sig .tc := ⟨.hbm, 292, rfl⟩
abbrev main_call13_v4 : Ref sig .tc := ⟨.hbm, 293, rfl⟩
abbrev main_call13_v5 : Ref sig .tc := ⟨.hbm, 294, rfl⟩
abbrev main_call13_c_1 : Ref sig .tc := ⟨.hbm, 295, rfl⟩
abbrev main_call13_c_2 : Ref sig .tc := ⟨.hbm, 296, rfl⟩
abbrev main_call13_v6 : Ref sig .tc := ⟨.hbm, 297, rfl⟩
abbrev main_call13_v7 : Ref sig .tc := ⟨.hbm, 298, rfl⟩
abbrev main_call13_v8 : Ref sig .tc := ⟨.hbm, 299, rfl⟩
abbrev main_call13_v9 : Ref sig .tc := ⟨.hbm, 300, rfl⟩
abbrev main_call13_v10 : Ref sig .tc := ⟨.hbm, 301, rfl⟩
abbrev main_call13_v11 : Ref sig .tc := ⟨.hbm, 302, rfl⟩
abbrev main_call13_c_3 : Ref sig .tc := ⟨.hbm, 303, rfl⟩
abbrev main_call13_v12 : Ref sig .tc := ⟨.hbm, 304, rfl⟩
abbrev main_call13_v13 : Ref sig .tc := ⟨.hbm, 305, rfl⟩
abbrev main_call13_cst : Ref sig .tc := ⟨.hbm, 306, rfl⟩
abbrev main_call13_v14 : Ref sig .tc := ⟨.hbm, 307, rfl⟩
abbrev main_v98 : Ref sig .tc := ⟨.hbm, 308, rfl⟩
abbrev main_v99 : Ref sig .tc := ⟨.hbm, 309, rfl⟩
abbrev main_cst_32 : Ref sig .tc := ⟨.hbm, 310, rfl⟩
abbrev main_v100 : Ref sig .tc := ⟨.hbm, 311, rfl⟩
abbrev main_cst_33 : Ref sig .tc := ⟨.hbm, 312, rfl⟩
abbrev main_v101 : Ref sig .tc := ⟨.hbm, 313, rfl⟩
abbrev main_v102 : Ref sig .tc := ⟨.hbm, 314, rfl⟩
abbrev main_cst_34 : Ref sig .tc := ⟨.hbm, 315, rfl⟩
abbrev main_v103 : Ref sig .tc := ⟨.hbm, 316, rfl⟩
abbrev main_v104 : Ref sig .tc := ⟨.hbm, 317, rfl⟩
abbrev main_v105 : Ref sig .tc := ⟨.hbm, 318, rfl⟩
abbrev main_cst_35 : Ref sig .tc := ⟨.hbm, 319, rfl⟩
abbrev main_v106 : Ref sig .tc := ⟨.hbm, 320, rfl⟩
abbrev main_v107 : Ref sig .tc := ⟨.hbm, 321, rfl⟩
abbrev main_v108 : Ref sig .tc := ⟨.hbm, 322, rfl⟩
abbrev main_cst_36 : Ref sig .tc := ⟨.hbm, 323, rfl⟩
abbrev main_v109 : Ref sig .tc := ⟨.hbm, 324, rfl⟩
abbrev main_v110 : Ref sig .tc := ⟨.hbm, 325, rfl⟩
abbrev main_v111 : Ref sig .tc := ⟨.hbm, 326, rfl⟩
abbrev main_cst_37 : Ref sig .tc := ⟨.hbm, 327, rfl⟩
abbrev main_v112 : Ref sig .tc := ⟨.hbm, 328, rfl⟩
abbrev main_v113 : Ref sig .tc := ⟨.hbm, 329, rfl⟩
abbrev main_v114 : Ref sig .tc := ⟨.hbm, 330, rfl⟩
abbrev main_v115 : Ref sig .tc := ⟨.hbm, 331, rfl⟩
abbrev main_cst_38 : Ref sig .tc := ⟨.hbm, 332, rfl⟩
abbrev main_v116 : Ref sig .tc := ⟨.hbm, 333, rfl⟩
abbrev main_v117 : Ref sig .tc := ⟨.hbm, 334, rfl⟩
abbrev main_v118 : Ref sig .tc := ⟨.hbm, 335, rfl⟩
abbrev main_v119 : Ref sig .tc := ⟨.hbm, 336, rfl⟩
abbrev main_v120 : Ref sig .tc := ⟨.hbm, 337, rfl⟩
abbrev main_cst_39 : Ref sig .tc := ⟨.hbm, 338, rfl⟩
abbrev main_v121 : Ref sig .tc := ⟨.hbm, 339, rfl⟩
abbrev main_v122 : Ref sig .tc := ⟨.hbm, 340, rfl⟩
abbrev main_cst_40 : Ref sig .tc := ⟨.hbm, 341, rfl⟩
abbrev main_v123 : Ref sig .tc := ⟨.hbm, 342, rfl⟩
abbrev main_v124 : Ref sig .tc := ⟨.hbm, 343, rfl⟩
abbrev main_v125 : Ref sig .tc := ⟨.hbm, 344, rfl⟩
abbrev main_v126 : Ref sig .tc := ⟨.hbm, 345, rfl⟩
abbrev main_cst_41 : Ref sig .tc := ⟨.hbm, 346, rfl⟩
abbrev main_v127 : Ref sig .tc := ⟨.hbm, 347, rfl⟩
abbrev main_v128 : Ref sig .tc := ⟨.hbm, 348, rfl⟩
abbrev main_v129 : Ref sig .tc := ⟨.hbm, 349, rfl⟩
abbrev main_v130 : Ref sig .tc := ⟨.hbm, 350, rfl⟩
abbrev main_v131 : Ref sig .tc := ⟨.hbm, 351, rfl⟩
abbrev main_v132 : Ref sig .tc := ⟨.hbm, 352, rfl⟩
abbrev main_v133 : Ref sig .tc := ⟨.hbm, 353, rfl⟩
abbrev main_cst_42 : Ref sig .tc := ⟨.hbm, 354, rfl⟩
abbrev main_v134 : Ref sig .tc := ⟨.hbm, 355, rfl⟩
abbrev main_v135 : Ref sig .tc := ⟨.hbm, 356, rfl⟩
abbrev main_cst_43 : Ref sig .tc := ⟨.hbm, 357, rfl⟩
abbrev main_v136 : Ref sig .tc := ⟨.hbm, 358, rfl⟩
abbrev main_v137 : Ref sig .tc := ⟨.hbm, 359, rfl⟩
abbrev main_v138 : Ref sig .tc := ⟨.hbm, 360, rfl⟩
abbrev main_cst_44 : Ref sig .tc := ⟨.hbm, 361, rfl⟩
abbrev main_v139 : Ref sig .tc := ⟨.hbm, 362, rfl⟩
abbrev main_v140 : Ref sig .tc := ⟨.hbm, 363, rfl⟩
abbrev main_cst_45 : Ref sig .tc := ⟨.hbm, 364, rfl⟩
abbrev main_v141 : Ref sig .tc := ⟨.hbm, 365, rfl⟩
abbrev main_v142 : Ref sig .tc := ⟨.hbm, 366, rfl⟩
abbrev main_v143 : Ref sig .tc := ⟨.hbm, 367, rfl⟩
abbrev main_v144 : Ref sig .tc := ⟨.hbm, 368, rfl⟩
abbrev main_v145 : Ref sig .tc := ⟨.hbm, 369, rfl⟩
abbrev main_cst_46 : Ref sig .tc := ⟨.hbm, 370, rfl⟩
abbrev main_v146 : Ref sig .tc := ⟨.hbm, 371, rfl⟩
abbrev main_cst_47 : Ref sig .tc := ⟨.hbm, 372, rfl⟩
abbrev main_v147 : Ref sig .tc := ⟨.hbm, 373, rfl⟩
abbrev main_cst_48 : Ref sig .tc := ⟨.hbm, 374, rfl⟩
abbrev main_v148 : Ref sig .tc := ⟨.hbm, 375, rfl⟩
abbrev main_v149 : Ref sig .tc := ⟨.hbm, 376, rfl⟩

abbrev nD : Nat := 1
abbrev τ : Topo := Topo.v7x

variable {F : FTy → Type} [FloatOps F]
-- ==== Proof.Values.OrderStat.lean ====
/- Order statistics of a finite family of extended reals, described by counting.

   `countLe x t` is the number of entries of `x` that are at most `t`. A value `v` is entry `k` (counted from
   zero) of the sorted family exactly when, for every `t`, `v ≤ t` holds iff more than `k` entries are at most
   `t`. This file shows that a stable sort puts such a value at position `k`, that it is unique, and how the
   least entry above a threshold is the next order statistic. -/
module

public import Idealize.ShloMosaic.Lib.SortFacts
public import Mathlib.Data.EReal.Inv
public import Mathlib.Order.Interval.Finset.Fin

@[expose] public section

noncomputable section

namespace Cert.Values

open Idealize.ShloMosaic

/-- How many entries of `x` are at most `t`. -/
def countLe {n : ℕ} (x : Fin n → EReal) (t : EReal) : ℕ := (Finset.univ.filter fun i => x i ≤ t).card

/-- `v` is entry `k`, counted from zero, of `x` in increasing order. -/
def IsKth {n : ℕ} (x : Fin n → EReal) (k : ℕ) (v : EReal) : Prop := ∀ t, v ≤ t ↔ k < countLe x t

theorem countLe_mono {n : ℕ} (x : Fin n → EReal) {s t : EReal} (h : s ≤ t) : countLe x s ≤ countLe x t :=
  Finset.card_le_card fun i hi => by
    simp only [Finset.mem_filter, Finset.mem_univ, true_and] at hi ⊢
    exact hi.trans h

theorem countLe_top {n : ℕ} (x : Fin n → EReal) : countLe x ⊤ = n := by
  simp [countLe]

theorem IsKth.unique {n : ℕ} {x : Fin n → EReal} {k : ℕ} {v w : EReal} (hv : IsKth x k v) (hw : IsKth x k w) : v = w :=
  eq_of_forall_ge_iff fun t => (hv t).trans (hw t).symm

/-- A lower set of positions `{i | p i}` contains position `k` iff it has more than `k` members. -/
theorem lt_card_of_lower {n : ℕ} (p : Fin n → Prop) [DecidablePred p] (hp : ∀ a b, a ≤ b → p b → p a) (k : Fin n) :
    p k ↔ (k : ℕ) < (Finset.univ.filter p).card := by
  constructor
  · intro hk
    have hsub : Finset.Iic k ⊆ Finset.univ.filter p := fun i hi => by
      simp only [Finset.mem_filter, Finset.mem_univ, true_and]
      exact hp i k (Finset.mem_Iic.mp hi) hk
    have := Finset.card_le_card hsub
    rw [Fin.card_Iic] at this
    omega
  · intro hk
    by_contra hn
    have hsub : Finset.univ.filter p ⊆ Finset.Iio k := fun i hi => by
      simp only [Finset.mem_filter, Finset.mem_univ, true_and] at hi
      rw [Finset.mem_Iio]
      by_contra hle
      exact hn (hp k i (not_lt.mp hle) hi)
    have := Finset.card_le_card hsub
    rw [Fin.card_Iio] at this
    omega

/-- Entry `k` of the stably sorted family is order statistic `k`. -/
theorem isKth_sorted {n : ℕ} (x : Fin n → EReal) (B : Fin n → Fin n → Bool) (hB : ∀ a b, B a b = true ↔ x a < x b)
    (k : Fin n) : IsKth x k (x (sortedFrom B k)) := by
  have hmono : ∀ a b : Fin n, a ≤ b → x (sortedFrom B a) ≤ x (sortedFrom B b) := by
    intro a b hab
    rcases hab.lt_or_eq with hlt | rfl
    · have h := sortedFrom_noInversion B B
        (fun a b h => by
          have h1 := (hB a b).mp h
          rw [Bool.eq_false_iff]
          exact fun h2 => (lt_asymm h1) ((hB b a).mp h2))
        (fun _ _ h => h)
        (fun a b c hab hbc => by
          have hab' : ¬ x a < x b := fun h => by rw [(hB a b).mpr h] at hab; exact absurd hab (by decide)
          have hbc' : ¬ x b < x c := fun h => by rw [(hB b c).mpr h] at hbc; exact absurd hbc (by decide)
          rw [Bool.eq_false_iff]
          exact fun h => ((not_lt.mp hbc').trans (not_lt.mp hab')).not_gt ((hB a c).mp h)) _ _ hlt
      by_contra hc
      rw [(hB _ _).mpr (not_le.mp hc)] at h
      exact absurd h (by decide)
    · exact le_rfl
  intro t
  have hcard : countLe x t = (Finset.univ.filter fun i => x (sortedFrom B i) ≤ t).card := by
    refine (Finset.card_bij (fun i _ => sortedFrom B i) ?_ ?_ ?_).symm
    · intro i hi
      simpa using hi
    · intro a _ b _ h
      exact sortedFrom_injective B h
    · intro j hj
      obtain ⟨i, rfl⟩ := sortedFrom_surjective B j
      exact ⟨i, by simpa using hj, rfl⟩
  rw [hcard]
  exact lt_card_of_lower (fun i => x (sortedFrom B i) ≤ t) (fun a b hab hb => (hmono a b hab).trans hb) k

/-- If exactly `k` entries are at most `h`, the least entry above `h` is order statistic `k`; entries not above `h`
    are replaced by `⊤`. -/
theorem isKth_least_above {n : ℕ} (x : Fin n → EReal) (k : ℕ) (hk : k < n) (h : EReal) (hc : countLe x h = k) :
    IsKth x k (Finset.univ.inf fun i => if h < x i then x i else ⊤) := by
  intro t
  by_cases ht : t = ⊤
  · subst ht
    rw [countLe_top]
    exact ⟨fun _ => hk, fun _ => le_top⟩
  constructor
  · intro hle
    have hex : ∃ i, h < x i ∧ x i ≤ t := by
      by_contra hno
      push Not at hno
      have : t < (Finset.univ.inf fun i => if h < x i then x i else ⊤) := by
        rw [Finset.lt_inf_iff (lt_top_iff_ne_top.mpr ht)]
        intro i _
        split
        · exact hno i ‹_›
        · exact lt_top_iff_ne_top.mpr ht
      exact (not_lt.mpr hle) this
    obtain ⟨i, hi, hit⟩ := hex
    rw [← hc]
    refine Finset.card_lt_card ⟨fun j hj => ?_, fun hsub => ?_⟩
    · simp only [Finset.mem_filter, Finset.mem_univ, true_and] at hj ⊢
      exact hj.trans (hi.le.trans hit)
    · have := hsub (show i ∈ Finset.univ.filter fun j => x j ≤ t by simpa using hit)
      simp only [Finset.mem_filter, Finset.mem_univ, true_and] at this
      exact (not_le.mpr hi) this
  · intro hlt
    have hex : ∃ i, x i ≤ t ∧ h < x i := by
      by_contra hno
      push Not at hno
      have : countLe x t ≤ countLe x h := Finset.card_le_card fun j hj => by
        simp only [Finset.mem_filter, Finset.mem_univ, true_and] at hj ⊢
        exact hno j hj
      omega
    obtain ⟨i, hit, hi⟩ := hex
    refine (Finset.inf_le (Finset.mem_univ i)).trans ?_
    rw [if_pos hi]
    exact hit

/-- The upper of two neighbouring order statistics, raised to at least a threshold `h` that has at least `k` entries
    at or below it: `h` itself where more than `k` entries are at most `h`, else the least entry above `h`. -/
theorem upper_eq_max {n : ℕ} (x : Fin n → EReal) (k : ℕ) (hk : k < n) (h w : EReal) (hw : IsKth x k w)
    (hc : k ≤ countLe x h) :
    (if k + 1 ≤ countLe x h then h else Finset.univ.inf fun i => if h < x i then x i else ⊤) = max w h := by
  split
  · exact (max_eq_right ((hw h).mpr (by omega))).symm
  · have hceq : countLe x h = k := by omega
    rw [(isKth_least_above x k hk h hceq).unique hw]
    refine (max_eq_left ?_).symm
    rcases le_total h w with h1 | h1
    · exact h1
    · exact absurd ((hw h).mp h1) (by omega)

end Cert.Values

end
-- ==== Proof.Values.Constants.lean ====
/- The literals of the two programs as real numbers, and the ideal operations on real arguments. -/
module

public import proofs.«01_k».proof.Proof.Values.OrderStat
public import Idealize.ShloMosaic.Lib.Pointwise
public import Idealize.ShloMosaic.PureOps.Ideal
public import Idealize.ShloMosaic.PureOps.Ideal.Laws

@[expose] public section

noncomputable section

namespace Cert.Values

open Idealize.ShloMosaic

/-- The small constant `1e-6`, as rounded to 32 bits. -/
def epsR : ℝ := 8796093 / 2 ^ 43
/-- The lower end `-0.001` of both searches, as rounded to 32 bits. -/
def lowR : ℝ := -(8589935 / 2 ^ 33)
/-- The upper end `2.001` of the first search, as rounded to 32 bits. -/
def highR : ℝ := 8392802 / 2 ^ 22
/-- The upper end `2.005` of the second search, as rounded to 32 bits. -/
def highDevR : ℝ := 8409580 / 2 ^ 22

theorem lit_eps : Ideal.ofBits .f32 0x358637BD#32 = (epsR : EReal) := by
  simp [Ideal.ofBits, Ideal.ieee, epsR, -EReal.coe_mul]; norm_num
theorem lit_low : Ideal.ofBits .f32 0xBA83126F#32 = (lowR : EReal) := by
  simp [Ideal.ofBits, Ideal.ieee, lowR, -EReal.coe_mul, -EReal.coe_neg]; norm_num
theorem lit_high : Ideal.ofBits .f32 0x40001062#32 = (highR : EReal) := by
  simp [Ideal.ofBits, Ideal.ieee, highR, -EReal.coe_mul]; norm_num
theorem lit_highDev : Ideal.ofBits .f32 0x400051EC#32 = (highDevR : EReal) := by
  simp [Ideal.ofBits, Ideal.ieee, highDevR, -EReal.coe_mul]; norm_num
theorem lit_half : Ideal.ofBits .f32 0x3F000000#32 = ((1 / 2 : ℝ) : EReal) := by
  simp [Ideal.ofBits, Ideal.ieee, -EReal.coe_mul]; norm_num
theorem lit_2047 : Ideal.ofBits .f32 0x44FFE000#32 = ((2047 : ℝ) : EReal) := by
  simp [Ideal.ofBits, Ideal.ieee, -EReal.coe_mul]; norm_num
theorem lit_2048 : Ideal.ofBits .f32 0x45000000#32 = ((2048 : ℝ) : EReal) := by
  simp [Ideal.ofBits, Ideal.ieee, -EReal.coe_mul]; norm_num
theorem lit_4094 : Ideal.ofBits .f32 0x457FE000#32 = ((4094 : ℝ) : EReal) := by
  simp [Ideal.ofBits, Ideal.ieee, -EReal.coe_mul]; norm_num
theorem lit_8192 : Ideal.ofBits .f32 0x46000000#32 = ((8192 : ℝ) : EReal) := by
  simp [Ideal.ofBits, Ideal.ieee, -EReal.coe_mul]; norm_num
theorem lit_points : Ideal.ofBits .f32 0x4A7FE000#32 = ((4192256 : ℝ) : EReal) := by
  simp [Ideal.ofBits, Ideal.ieee, -EReal.coe_mul]; norm_num
theorem lit_neg_one : Ideal.ofBits .f32 0xBF800000#32 = ((-1 : ℝ) : EReal) := by
  simp [Ideal.ofBits, Ideal.ieee, -EReal.coe_mul, -EReal.coe_neg]; norm_num
theorem lit_one : Ideal.ofBits .f32 0x3F800000#32 = ((1 : ℝ) : EReal) := by
  simp [Ideal.ofBits, Ideal.ieee, -EReal.coe_mul]; norm_num
theorem lit_top : Ideal.ofBits .f32 0x7F800000#32 = ⊤ := by
  simp [Ideal.ofBits, Ideal.ieee]

theorem epsR_pos : 0 < epsR := by unfold epsR; norm_num
theorem epsR_lt_one : epsR < 1 := by unfold epsR; norm_num
theorem lowR_neg : lowR < 0 := by unfold lowR; norm_num
theorem highR_ge : 2 ≤ highR := by unfold highR; norm_num
theorem highR_lt : highR < highDevR := by unfold highR highDevR; norm_num
theorem highDev_ge : 2 - lowR ≤ highDevR := by unfold highDevR lowR; norm_num

/-- Division of reals by a nonzero real. -/
theorem div_coe (x y : ℝ) (hy : y ≠ 0) : Ideal.div (x : EReal) (y : EReal) = ((x / y : ℝ) : EReal) := by
  unfold Ideal.div
  rw [if_neg (by exact_mod_cast hy), ← EReal.coe_inv, ← EReal.coe_mul, div_eq_mul_inv]

/-- The square root of a nonnegative real. -/
theorem sqrt_coe (x : ℝ) (hx : 0 ≤ x) : Ideal.sqrt (x : EReal) = ((Real.sqrt x : ℝ) : EReal) := by
  show (if x < 0 then (⊥ : EReal) else (Real.sqrt x : EReal)) = _
  rw [if_neg (not_lt.mpr hx)]

theorem ceil_coe (x : ℝ) : Ideal.liftRound Int.ceil (x : EReal) = ((⌈x⌉ : ℝ) : EReal) := rfl

theorem max_coe (x y : ℝ) : max (x : EReal) (y : EReal) = ((max x y : ℝ) : EReal) :=
  (EReal.coe_strictMono.monotone.map_max).symm

theorem abs_coe (x : ℝ) : max (x : EReal) (-(x : EReal)) = ((|x| : ℝ) : EReal) := by
  rw [← EReal.coe_neg, max_coe]; rfl

/-- A comparison's outcome, widened and converted, is its indicator. -/
theorem indicator_eq (p : Prop) [Decidable p] :
    (FloatOps.sitofp (F := Ideal) .f32 (BitVec.setWidth 32 (BitVec.ofBool (decide p))) : EReal) = if p then 1 else 0 := by
  show ((((BitVec.setWidth 32 (BitVec.ofBool (decide p))).toInt : ℝ)) : EReal) = _
  by_cases h : p <;> simp [h]

end Cert.Values

end
-- ==== Proof.Values.Bisect.lean ====
/- The search by halving an interval, and the median it gives.

   One step halves the interval `(lo, hi]`, keeping in it the order statistic 2046 of the family searched. After
   13 steps the upper end is that order statistic rounded up to the next of 8192 equal steps of the first interval. -/
module

public import proofs.«01_k».proof.Proof.Values.Constants

@[expose] public section

noncomputable section

namespace Cert.Values

open Idealize.ShloMosaic

/-- How many entries of `x` are at most `t`, as the sum of their indicators. -/
def tally {n : ℕ} (x : Fin n → EReal) (t : EReal) : EReal := ∑ i, if x i ≤ t then 1 else 0

theorem tally_eq {n : ℕ} (x : Fin n → EReal) (t : EReal) : tally x t = (((countLe x t : ℕ) : ℝ) : EReal) := by
  unfold tally countLe
  rw [Finset.sum_boole]
  exact (EReal.coe_natCast).symm

/-- The middle of an interval, as the programs compute it. -/
def middle (a b : EReal) : EReal := Ideal.ofBits .f32 0x3F000000#32 * (a + b)

theorem middle_coe (a b : ℝ) : middle (a : EReal) (b : EReal) = (((a + b) / 2 : ℝ) : EReal) := by
  unfold middle
  rw [lit_half, ← EReal.coe_add, ← EReal.coe_mul]
  congr 1; ring

/-- One halving: lower end, upper end, and the tally at the upper end. -/
def halve {n : ℕ} (x : Fin n → EReal) (s : EReal × EReal × EReal) : EReal × EReal × EReal :=
  (if Ideal.ofBits .f32 0x44FFE000#32 ≤ tally x (middle s.1 s.2.1) then s.1 else middle s.1 s.2.1,
   if Ideal.ofBits .f32 0x44FFE000#32 ≤ tally x (middle s.1 s.2.1) then middle s.1 s.2.1 else s.2.1,
   if Ideal.ofBits .f32 0x44FFE000#32 ≤ tally x (middle s.1 s.2.1) then tally x (middle s.1 s.2.1) else s.2.2)

/-- The median of the entries below `⊤`: the mean of the searched lower middle value and the upper middle value. -/
def searchMedian {n : ℕ} (x : Fin n → EReal) (s : EReal × EReal × EReal) : EReal :=
  Ideal.ofBits .f32 0x3F000000#32 * (s.2.1 + if Ideal.ofBits .f32 0x45000000#32 ≤ s.2.2 then s.2.1 else
    Finset.univ.fold min (Ideal.ofBits .f32 0x7F800000#32)
      fun k => if s.2.1 < x k then x k else Ideal.ofBits .f32 0x7F800000#32)

/-- `v` rounded up to the next of 8192 equal steps of the interval from `lo` to `hi`. -/
def roundUp (lo hi v : EReal) : EReal :=
  lo + (hi - lo) * Ideal.div (Ideal.liftRound Int.ceil (Ideal.div (v - lo) (hi - lo) * Ideal.ofBits .f32 0x46000000#32))
    (Ideal.ofBits .f32 0x46000000#32)

/-- The median from the two middle values of the sorted family. -/
def sortMedian (lo hi v w : EReal) : EReal :=
  Ideal.ofBits .f32 0x3F000000#32 * (roundUp lo hi v + max w (roundUp lo hi v))

theorem halve_coe {n : ℕ} (x : Fin n → EReal) (a b : ℝ) (c : EReal) :
    halve x ((a : EReal), (b : EReal), c) = if 2047 ≤ countLe x (((a + b) / 2 : ℝ) : EReal)
      then ((a : EReal), (((a + b) / 2 : ℝ) : EReal), (((countLe x (((a + b) / 2 : ℝ) : EReal) : ℕ) : ℝ) : EReal))
      else ((((a + b) / 2 : ℝ) : EReal), (b : EReal), c) := by
  have hiff : (Ideal.ofBits .f32 0x44FFE000#32 ≤ tally x (middle (a : EReal) (b : EReal)))
      ↔ 2047 ≤ countLe x (((a + b) / 2 : ℝ) : EReal) := by
    rw [lit_2047, middle_coe, tally_eq, EReal.coe_le_coe_iff]
    exact_mod_cast Iff.rfl
  unfold halve
  simp only [hiff]
  split <;> simp only [middle_coe, tally_eq]

/-- After `i` halvings the interval is one of `2 ^ i` equal parts, and order statistic 2046 lies in it. -/
theorem halve_iterate {n : ℕ} (x : Fin n → EReal) (l h : ℝ) (hl : countLe x (l : EReal) < 2047)
    (hh : 2047 ≤ countLe x (h : EReal)) (i : ℕ) :
    ∃ a : ℕ, (halve x)^[i] ((l : EReal), (h : EReal), (((countLe x (h : EReal) : ℕ) : ℝ) : EReal))
        = (((l + a * ((h - l) / 2 ^ i) : ℝ) : EReal), ((l + (a + 1) * ((h - l) / 2 ^ i) : ℝ) : EReal),
          (((countLe x ((l + (a + 1) * ((h - l) / 2 ^ i) : ℝ) : EReal) : ℕ) : ℝ) : EReal))
      ∧ countLe x ((l + a * ((h - l) / 2 ^ i) : ℝ) : EReal) < 2047
      ∧ 2047 ≤ countLe x ((l + (a + 1) * ((h - l) / 2 ^ i) : ℝ) : EReal)
      ∧ a < 2 ^ i := by
  induction i with
  | zero =>
    refine ⟨0, ?_, ?_, ?_, by norm_num⟩ <;> simpa using by assumption
  | succ i ih =>
    obtain ⟨a, he, h1, h2, h3⟩ := ih
    rw [Function.iterate_succ_apply', he, halve_coe]
    have hm : (l + a * ((h - l) / 2 ^ i) + (l + (a + 1) * ((h - l) / 2 ^ i))) / 2
        = l + ((2 * a : ℕ) + 1) * ((h - l) / 2 ^ (i + 1)) := by
      push_cast; rw [pow_succ]; field_simp; ring
    have hm' : l + ((2 * a : ℕ) + 1) * ((h - l) / 2 ^ (i + 1)) = l + ((2 * a + 1 : ℕ)) * ((h - l) / 2 ^ (i + 1)) := by
      push_cast; ring
    have hlo : l + a * ((h - l) / 2 ^ i) = l + (2 * a : ℕ) * ((h - l) / 2 ^ (i + 1)) := by
      push_cast; rw [pow_succ]; field_simp
    have hhi : l + (a + 1) * ((h - l) / 2 ^ i) = l + ((2 * a + 1 : ℕ) + 1) * ((h - l) / 2 ^ (i + 1)) := by
      push_cast; rw [pow_succ]; field_simp; ring
    rw [hm]
    split
    · rename_i hc
      exact ⟨2 * a, by rw [hlo], by rw [← hlo]; exact h1, hc, by rw [pow_succ]; omega⟩
    · rename_i hc
      refine ⟨2 * a + 1, ?_, ?_, ?_, by rw [pow_succ]; omega⟩
      · rw [hhi, hm']
      · rw [← hm']; omega
      · rw [← hhi]; exact h2

/-- The searched median is the median from the sorted family's two middle values, and lies in the interval. -/
theorem searchMedian_eq {n : ℕ} (x : Fin n → EReal) (hn : 2047 < n) (l h : ℝ) (hlh : l < h) (hl : ∀ i, (l : EReal) < x i)
    (hh : 2048 ≤ countLe x (h : EReal)) (tot : EReal) (ht : tot = (((countLe x (h : EReal) : ℕ) : ℝ) : EReal))
    (v w : EReal) (hv : IsKth x 2046 v) (hw : IsKth x 2047 w) :
    searchMedian x ((halve x)^[13] ((l : EReal), (h : EReal), tot)) = sortMedian (l : EReal) (h : EReal) v w
      ∧ ∃ r : ℝ, searchMedian x ((halve x)^[13] ((l : EReal), (h : EReal), tot)) = (r : EReal) ∧ l ≤ r ∧ r ≤ h := by
  have hl0 : countLe x (l : EReal) = 0 := by
    unfold countLe
    rw [Finset.card_eq_zero, Finset.filter_eq_empty_iff]
    exact fun i _ => not_le.mpr (hl i)
  obtain ⟨a, he, h1, h2, h3⟩ := halve_iterate x l h (by omega) (by omega) 13
  subst ht
  rw [he]
  have hW : 0 < h - l := sub_pos.mpr hlh
  -- the lower middle value is a real number in the interval
  have hvh : v ≤ (h : EReal) := (hv _).mpr (by omega)
  have hvl : (l : EReal) < v := not_le.mp fun hc => by have := (hv _).mp hc; omega
  obtain ⟨u, rfl⟩ : ∃ u : ℝ, v = (u : EReal) :=
    ⟨v.toReal, (EReal.coe_toReal (ne_top_of_le_ne_top (EReal.coe_ne_top _) hvh) (ne_bot_of_gt hvl)).symm⟩
  set R : ℝ := l + (a + 1) * ((h - l) / 2 ^ 13) with hR
  have huR : u ≤ R := EReal.coe_le_coe_iff.mp ((hv _).mpr (by omega))
  have hlu : l + a * ((h - l) / 2 ^ 13) < u := EReal.coe_lt_coe_iff.mp (not_le.mp fun hc => by
    have := (hv _).mp hc; omega)
  have hround : roundUp (l : EReal) (h : EReal) (u : EReal) = (R : EReal) := by
    unfold roundUp
    rw [lit_8192, ← EReal.coe_sub, ← EReal.coe_sub, div_coe _ _ hW.ne', ← EReal.coe_mul, ceil_coe,
      div_coe _ _ (by norm_num), ← EReal.coe_mul, ← EReal.coe_add]
    have hc : ⌈(u - l) / (h - l) * 8192⌉ = (a : ℤ) + 1 := by
      rw [Int.ceil_eq_iff]
      constructor
      · have : (a : ℝ) * ((h - l) / 2 ^ 13) < u - l := by linarith
        push_cast
        rw [div_mul_eq_mul_div, lt_div_iff₀ hW]
        have h8 : (2 : ℝ) ^ 13 = 8192 := by norm_num
        rw [h8] at this
        linarith
      · have : u - l ≤ (a + 1) * ((h - l) / 2 ^ 13) := by linarith
        push_cast
        rw [div_mul_eq_mul_div, div_le_iff₀ hW]
        have h8 : (2 : ℝ) ^ 13 = 8192 := by norm_num
        rw [h8] at this
        linarith
    rw [hc, hR]
    congr 1
    push_cast
    ring
  have hwh : w ≤ (h : EReal) := (hw _).mpr (by omega)
  have hRh : R ≤ h := by
    have : ((a : ℝ) + 1) ≤ 2 ^ 13 := by exact_mod_cast h3
    have h4 : (a + 1) * ((h - l) / 2 ^ 13) ≤ 2 ^ 13 * ((h - l) / 2 ^ 13) :=
      mul_le_mul_of_nonneg_right this (by positivity)
    have h5 : (2 : ℝ) ^ 13 * ((h - l) / 2 ^ 13) = h - l := by field_simp
    linarith
  have hlR : l ≤ R := by
    have : 0 ≤ (a + 1) * ((h - l) / 2 ^ 13) := by positivity
    linarith
  have hiff : (Ideal.ofBits .f32 0x45000000#32 ≤ (((countLe x (R : EReal) : ℕ) : ℝ) : EReal))
      ↔ 2047 + 1 ≤ countLe x (R : EReal) := by
    rw [lit_2048, EReal.coe_le_coe_iff]
    exact_mod_cast Iff.rfl
  have hup : (if Ideal.ofBits .f32 0x45000000#32 ≤ (((countLe x (R : EReal) : ℕ) : ℝ) : EReal) then (R : EReal) else
      Finset.univ.fold min (Ideal.ofBits .f32 0x7F800000#32)
        fun k => if (R : EReal) < x k then x k else Ideal.ofBits .f32 0x7F800000#32) = max w (R : EReal) := by
    simp only [hiff, lit_top]
    exact upper_eq_max x 2047 hn R w hw h2
  have heq : searchMedian x (((l + a * ((h - l) / 2 ^ 13) : ℝ) : EReal), (R : EReal), (((countLe x (R : EReal) : ℕ) : ℝ) : EReal))
      = middle (R : EReal) (max w (R : EReal)) := by
    unfold searchMedian middle
    dsimp only
    rw [hup]
  rw [heq]
  refine ⟨by unfold sortMedian middle; rw [hround], ?_⟩
  have hm1 : (R : EReal) ≤ max w (R : EReal) := le_max_right _ _
  have hm2 : max w (R : EReal) ≤ (h : EReal) := max_le hwh (EReal.coe_le_coe_iff.mpr hRh)
  obtain ⟨q, hq⟩ : ∃ q : ℝ, max w (R : EReal) = (q : EReal) :=
    ⟨(max w (R : EReal)).toReal, (EReal.coe_toReal (ne_top_of_le_ne_top (EReal.coe_ne_top _) hm2)
      (ne_bot_of_le_ne_bot (EReal.coe_ne_bot _) hm1)).symm⟩
  rw [hq, EReal.coe_le_coe_iff] at hm1 hm2
  rw [hq, middle_coe]
  exact ⟨_, rfl, by linarith, by linarith⟩

end Cert.Values

end
-- ==== Proof.Values.Turn.lean ====
/- The turning value at a point: one minus the cosine of the angle between the two steps that meet there.

   `turn a b c d` is that number for the steps `(a, b)` and `(c, d)`, and `turnAny a b c d` extends it to steps that are
   not real: with an infinite length it is one. One program divides the dot product by the product of the lengths, the
   other divides each step by its length first and then divides the dot product of the unit steps by the product of their
   lengths, which is one. For steps of squared length at least `epsR` both give `turnAny`. -/
module

public import proofs.«01_k».proof.Proof.Values.Bisect

@[expose] public section

noncomputable section

namespace Cert.Values

open Idealize.ShloMosaic

/-- One minus the cosine of the angle between the steps `(a, b)` and `(c, d)`. -/
def turn (a b c d : ℝ) : ℝ := 1 - (a * c + b * d) / (Real.sqrt (a * a + b * b) * Real.sqrt (c * c + d * d))

theorem turn_mem (a b c d : ℝ) : 0 ≤ turn a b c d ∧ turn a b c d ≤ 2 := by
  have habs : |(a * c + b * d) / (Real.sqrt (a * a + b * b) * Real.sqrt (c * c + d * d))| ≤ 1 := by
    rw [abs_div, abs_of_nonneg (mul_nonneg (Real.sqrt_nonneg _) (Real.sqrt_nonneg _))]
    refine div_le_one_of_le₀ ?_ (mul_nonneg (Real.sqrt_nonneg _) (Real.sqrt_nonneg _))
    rw [← Real.sqrt_mul (by nlinarith [mul_self_nonneg a, mul_self_nonneg b])]
    refine Real.abs_le_sqrt ?_
    nlinarith [mul_self_nonneg (a * d - b * c)]
  rw [abs_le] at habs
  unfold turn
  constructor <;> linarith [habs.1, habs.2]

/-- A length: the square root of a squared length that is at least `epsR`. -/
theorem length_coe (p : ℝ) (hp : epsR ≤ p) :
    Ideal.sqrt (max (p : EReal) (Ideal.ofBits .f32 0x358637BD#32)) = ((Real.sqrt p : ℝ) : EReal) := by
  rw [lit_eps, max_coe, max_eq_left hp, sqrt_coe _ (epsR_pos.le.trans hp)]

/-- Dividing the dot product of real steps by the product of the lengths. -/
theorem turn_by_lengths_real (a b c d : ℝ) (h0 : epsR ≤ a * a + b * b) (h1 : epsR ≤ c * c + d * d) :
    (1 : EReal) - Ideal.div ((a : EReal) * c + (b : EReal) * d)
      (max (Ideal.sqrt (max ((a : EReal) * a + (b : EReal) * b) (Ideal.ofBits .f32 0x358637BD#32))
          * Ideal.sqrt (max ((c : EReal) * c + (d : EReal) * d) (Ideal.ofBits .f32 0x358637BD#32)))
        (Ideal.ofBits .f32 0x358637BD#32)) = ((turn a b c d : ℝ) : EReal) := by
  simp only [← EReal.coe_mul, ← EReal.coe_add]
  rw [length_coe _ h0, length_coe _ h1, lit_eps, ← EReal.coe_mul, max_coe]
  have hge : epsR ≤ Real.sqrt (a * a + b * b) * Real.sqrt (c * c + d * d) := by
    rw [← Real.sqrt_mul (epsR_pos.le.trans h0)]
    refine Real.le_sqrt_of_sq_le ?_
    nlinarith [epsR_pos, mul_le_mul h0 h1 epsR_pos.le (epsR_pos.le.trans h0)]
  rw [max_eq_left hge, div_coe _ _ (epsR_pos.trans_le hge).ne', ← EReal.coe_one, ← EReal.coe_sub]
  rfl

/-- The squared length of a step divided by its length is one. -/
theorem unit_length (a b : ℝ) (h : epsR ≤ a * a + b * b) :
    a / Real.sqrt (a * a + b * b) * (a / Real.sqrt (a * a + b * b))
      + b / Real.sqrt (a * a + b * b) * (b / Real.sqrt (a * a + b * b)) = 1 := by
  have hpos : 0 < a * a + b * b := epsR_pos.trans_le h
  have hs : Real.sqrt (a * a + b * b) ≠ 0 := (Real.sqrt_pos.mpr hpos).ne'
  have hsq := Real.mul_self_sqrt hpos.le
  field_simp
  rw [pow_two, pow_two, pow_two, hsq]
  exact div_self hpos.ne'

/-- Dividing real steps by their lengths first. -/
theorem turn_by_units_real (a b c d : ℝ) (h0 : epsR ≤ a * a + b * b) (h1 : epsR ≤ c * c + d * d) (u0 u1 w0 w1 : EReal)
    (hu0 : u0 = ((a / Real.sqrt (a * a + b * b) : ℝ) : EReal)) (hu1 : u1 = ((b / Real.sqrt (a * a + b * b) : ℝ) : EReal))
    (hw0 : w0 = ((c / Real.sqrt (c * c + d * d) : ℝ) : EReal)) (hw1 : w1 = ((d / Real.sqrt (c * c + d * d) : ℝ) : EReal)) :
    (1 : EReal) - Ideal.div (u0 * w0 + u1 * w1)
      (max (Ideal.sqrt (max (u0 * u0 + u1 * u1) (Ideal.ofBits .f32 0x358637BD#32))
          * Ideal.sqrt (max (w0 * w0 + w1 * w1) (Ideal.ofBits .f32 0x358637BD#32)))
        (Ideal.ofBits .f32 0x358637BD#32)) = ((turn a b c d : ℝ) : EReal) := by
  subst hu0 hu1 hw0 hw1
  rw [turn_by_lengths_real _ _ _ _ (by rw [unit_length a b h0]; exact epsR_lt_one.le)
    (by rw [unit_length c d h1]; exact epsR_lt_one.le)]
  unfold turn
  rw [unit_length a b h0, unit_length c d h1, Real.sqrt_one, mul_one, div_one, div_mul_div_comm, div_mul_div_comm,
    ← add_div]

/-- The length of a step, kept at least `sqrt epsR`, from its squared length. -/
def lengthOf (s : EReal) : EReal := Ideal.sqrt (max s (Ideal.ofBits .f32 0x358637BD#32))

theorem lengthOf_top : lengthOf ⊤ = ⊤ := by
  unfold lengthOf
  rw [max_eq_left le_top]
  rfl

theorem lengthOf_pos (s : EReal) : 0 < lengthOf s := by
  unfold lengthOf
  have h : (epsR : EReal) ≤ max s (Ideal.ofBits .f32 0x358637BD#32) := by rw [lit_eps]; exact le_max_right _ _
  generalize max s (Ideal.ofBits .f32 0x358637BD#32) = z at h
  induction z with
  | bot => simp at h
  | top => exact EReal.zero_lt_top
  | coe r =>
    have hr := epsR_pos.trans_le (EReal.coe_le_coe_iff.mp h)
    rw [sqrt_coe _ hr.le]
    exact EReal.coe_pos.mpr (Real.sqrt_pos.mpr hr)

/-- A quotient by the infinite length is zero. -/
theorem div_top (z : EReal) : Ideal.div z ⊤ = 0 := by
  unfold Ideal.div
  rw [if_neg (by simp), EReal.inv_top, mul_zero]

theorem zero_div_pos (z : EReal) (h : 0 < z) : Ideal.div 0 z = 0 := by
  unfold Ideal.div
  rw [if_neg h.ne', zero_mul]

/-- A step whose squared length is not infinite is real. -/
theorem step_real (a b : EReal) (h : a * a + b * b ≠ ⊤) :
    a = ((a.toReal : ℝ) : EReal) ∧ b = ((b.toReal : ℝ) : EReal) := by
  have key : ∀ x y : EReal, x = ⊤ ∨ x = ⊥ → x * x + y * y = ⊤ := fun x y hx => by
    have h1 : x * x = ⊤ := by rcases hx with e | e <;> subst e <;> rfl
    have h2 : y * y ≠ ⊥ := by
      have : 0 ≤ y * y := by
        rcases le_total 0 y with e | e
        · exact mul_nonneg e e
        · rw [← neg_mul_neg]
          exact mul_nonneg (EReal.neg_nonneg.mpr e) (EReal.neg_nonneg.mpr e)
      exact (EReal.bot_lt_zero.trans_le this).ne'
    rw [h1, EReal.top_add_of_ne_bot h2]
  refine ⟨(EReal.coe_toReal ?_ ?_).symm, (EReal.coe_toReal ?_ ?_).symm⟩
  · exact fun e => h (key a b (Or.inl e))
  · exact fun e => h (key a b (Or.inr e))
  · exact fun e => h ((add_comm _ _).trans (key b a (Or.inl e)))
  · exact fun e => h ((add_comm _ _).trans (key b a (Or.inr e)))

open Classical in
/-- The turning value of any two steps: one, if one of them is infinitely long. -/
def turnAny (a b c d : EReal) : ℝ :=
  if a * a + b * b = ⊤ ∨ c * c + d * d = ⊤ then 1 else turn a.toReal b.toReal c.toReal d.toReal

theorem turnAny_mem (a b c d : EReal) : 0 ≤ turnAny a b c d ∧ turnAny a b c d ≤ 2 := by
  unfold turnAny
  split
  · norm_num
  · exact turn_mem ..

theorem one_sub_zero : (1 : EReal) - 0 = ((1 : ℝ) : EReal) := by
  rw [sub_zero, EReal.coe_one]

/-- Dividing the dot product by the product of the lengths. -/
theorem turn_by_lengths (a b c d : EReal) (h0 : (epsR : EReal) ≤ a * a + b * b) (h1 : (epsR : EReal) ≤ c * c + d * d) :
    (1 : EReal) - Ideal.div (a * c + b * d)
      (max (lengthOf (a * a + b * b) * lengthOf (c * c + d * d)) (Ideal.ofBits .f32 0x358637BD#32))
      = ((turnAny a b c d : ℝ) : EReal) := by
  by_cases ht : a * a + b * b = ⊤ ∨ c * c + d * d = ⊤
  · have hl : lengthOf (a * a + b * b) * lengthOf (c * c + d * d) = ⊤ := by
      rcases ht with e | e <;> rw [e, lengthOf_top]
      · exact EReal.top_mul_of_pos (lengthOf_pos _)
      · exact EReal.mul_top_of_pos (lengthOf_pos _)
    rw [hl, max_eq_left le_top, div_top, turnAny, if_pos ht]
    exact one_sub_zero
  · rw [turnAny, if_neg ht]
    obtain ⟨p, q⟩ := not_or.mp ht
    obtain ⟨ea, eb⟩ := step_real a b p
    obtain ⟨ec, ed⟩ := step_real c d q
    generalize a.toReal = a' at ea ⊢
    generalize b.toReal = b' at eb ⊢
    generalize c.toReal = c' at ec ⊢
    generalize d.toReal = d' at ed ⊢
    subst ea eb ec ed
    exact turn_by_lengths_real _ _ _ _ (by exact_mod_cast h0) (by exact_mod_cast h1)

/-- Dividing each step by its length first. -/
theorem turn_by_units (a b c d : EReal) (h0 : (epsR : EReal) ≤ a * a + b * b) (h1 : (epsR : EReal) ≤ c * c + d * d)
    (u0 u1 w0 w1 : EReal)
    (hu0 : u0 = Ideal.div a (lengthOf (a * a + b * b))) (hu1 : u1 = Ideal.div b (lengthOf (a * a + b * b)))
    (hw0 : w0 = Ideal.div c (lengthOf (c * c + d * d))) (hw1 : w1 = Ideal.div d (lengthOf (c * c + d * d))) :
    (1 : EReal) - Ideal.div (u0 * w0 + u1 * w1)
      (max (lengthOf (u0 * u0 + u1 * u1) * lengthOf (w0 * w0 + w1 * w1)) (Ideal.ofBits .f32 0x358637BD#32))
      = ((turnAny a b c d : ℝ) : EReal) := by
  by_cases ht : a * a + b * b = ⊤ ∨ c * c + d * d = ⊤
  · have hn : u0 * w0 + u1 * w1 = 0 := by
      rcases ht with e | e
      · rw [hu0, hu1, e, lengthOf_top, div_top, div_top, zero_mul, zero_mul, add_zero]
      · rw [hw0, hw1, e, lengthOf_top, div_top, div_top, mul_zero, mul_zero, add_zero]
    rw [hn, zero_div_pos _ (lt_max_of_lt_right (by rw [lit_eps]; exact EReal.coe_pos.mpr epsR_pos)), turnAny, if_pos ht]
    exact one_sub_zero
  · rw [turnAny, if_neg ht]
    obtain ⟨p, q⟩ := not_or.mp ht
    obtain ⟨ea, eb⟩ := step_real a b p
    obtain ⟨ec, ed⟩ := step_real c d q
    generalize a.toReal = a' at ea ⊢
    generalize b.toReal = b' at eb ⊢
    generalize c.toReal = c' at ec ⊢
    generalize d.toReal = d' at ed ⊢
    subst ea eb ec ed
    have h0' : epsR ≤ a' * a' + b' * b' := by exact_mod_cast h0
    have h1' : epsR ≤ c' * c' + d' * d' := by exact_mod_cast h1
    have over : ∀ x s : ℝ, epsR ≤ s → Ideal.div (x : EReal) (lengthOf (s : EReal)) = ((x / Real.sqrt s : ℝ) : EReal) :=
      fun x s hs => by
        unfold lengthOf
        rw [length_coe s hs]
        exact div_coe _ _ (Real.sqrt_pos.mpr (epsR_pos.trans_le hs)).ne'
    simp only [← EReal.coe_mul, ← EReal.coe_add] at hu0 hu1 hw0 hw1
    exact turn_by_units_real _ _ _ _ h0' h1' _ _ _ _ (hu0.trans (over _ _ h0')) (hu1.trans (over _ _ h0'))
      (hw0.trans (over _ _ h1')) (hw1.trans (over _ _ h1'))

/-- The points of one curve: the columns of the result rows that carry a turning value. -/
def inner (k : Fin 4096) : Prop := 1 ≤ k.val ∧ k.val ≤ 4094

instance (k : Fin 4096) : Decidable (inner k) := by unfold inner; infer_instance

/-- The turning values of a curve with coordinates `X`, `Y`; zero at its two ends. -/
def turns (X Y : Fin 4096 → EReal) (k : Fin 4096) : ℝ :=
  if h : inner k then
    turnAny (X k - X ⟨k.val - 1, by omega⟩) (Y k - Y ⟨k.val - 1, by omega⟩)
      (X ⟨k.val + 1, by have := h.2; omega⟩ - X k) (Y ⟨k.val + 1, by have := h.2; omega⟩ - Y k)
  else 0

/-- Neighbouring points of the curve are at least `sqrt epsR` apart. -/
def Apart (X Y : Fin 4096 → EReal) : Prop :=
  ∀ (k : ℕ) (h : k + 1 < 4096), (epsR : EReal) ≤ (X ⟨k + 1, h⟩ - X ⟨k, by omega⟩) * (X ⟨k + 1, h⟩ - X ⟨k, by omega⟩)
    + (Y ⟨k + 1, h⟩ - Y ⟨k, by omega⟩) * (Y ⟨k + 1, h⟩ - Y ⟨k, by omega⟩)

theorem turns_mem (X Y : Fin 4096 → EReal) (k : Fin 4096) : 0 ≤ turns X Y k ∧ turns X Y k ≤ 2 := by
  unfold turns
  split
  · exact turnAny_mem ..
  · norm_num

theorem turns_outer (X Y : Fin 4096 → EReal) (k : Fin 4096) (h : ¬ inner k) : turns X Y k = 0 := dif_neg h

theorem turns_inner (X Y : Fin 4096 → EReal) (k : Fin 4096) (h : inner k) : turns X Y k =
    turnAny (X k - X ⟨k.val - 1, by omega⟩) (Y k - Y ⟨k.val - 1, by omega⟩)
      (X ⟨k.val + 1, by have := h.2; omega⟩ - X k) (Y ⟨k.val + 1, by have := h.2; omega⟩ - Y k) := dif_pos h

/-- A row with its ends at `⊤`. -/
def innerRow (x : Fin 4096 → ℝ) (k : Fin 4096) : EReal := if inner k then (x k : EReal) else ⊤

theorem card_inner : (Finset.univ.filter fun k : Fin 4096 => inner k).card = 4094 := by
  have : (Finset.univ.filter fun k : Fin 4096 => inner k) = Finset.Icc ⟨1, by norm_num⟩ ⟨4094, by norm_num⟩ := by
    ext k
    rw [Finset.mem_filter, Finset.mem_Icc, Fin.le_def, Fin.le_def]
    exact ⟨fun h => h.2, fun h => ⟨Finset.mem_univ _, h⟩⟩
  rw [this, Fin.card_Icc]
  rfl

/-- All inner entries are at most `h`, the two ends are not. -/
theorem countLe_innerRow (x : Fin 4096 → ℝ) (h : ℝ) (hx : ∀ k, inner k → x k ≤ h) : countLe (innerRow x) (h : EReal) = 4094 := by
  unfold countLe
  rw [← card_inner]
  congr 1
  ext k
  simp only [Finset.mem_filter, Finset.mem_univ, true_and]
  unfold innerRow
  by_cases hk : inner k
  · simp [hk, hx k hk]
  · simp [hk]

/-- The median of a row's inner entries by search from the interval `(l, h]`, all of them lying in it. -/
def rowMedian (x : Fin 4096 → ℝ) (l h : ℝ) : EReal :=
  searchMedian (innerRow x) ((halve (innerRow x))^[13] ((l : EReal), (h : EReal), ((4094 : ℝ) : EReal)))

theorem rowMedian_eq (x : Fin 4096 → ℝ) (l h : ℝ) (hlh : l < h) (hl : ∀ k, l < x k) (hx : ∀ k, inner k → x k ≤ h)
    (v w : EReal) (hv : IsKth (innerRow x) 2046 v) (hw : IsKth (innerRow x) 2047 w) :
    rowMedian x l h = sortMedian (l : EReal) (h : EReal) v w ∧ ∃ r : ℝ, rowMedian x l h = (r : EReal) ∧ l ≤ r ∧ r ≤ h := by
  have hc := countLe_innerRow x h hx
  refine searchMedian_eq (innerRow x) (by norm_num) l h hlh (fun i => ?_) (by omega) _ (by rw [hc]; norm_num) v w hv hw
  unfold innerRow
  split
  · exact EReal.coe_lt_coe_iff.mpr (hl i)
  · exact EReal.coe_lt_top l

end Cert.Values

end
-- ==== Proof.Values.Block.lean ====
/-
  What one grid point of the kernel leaves in each of its six result blocks, as a function of its input blocks: the
  region's stores are whole-block stores, so each block is the value stored.
-/
module

public import proofs.«01_k».proof.Proof.Values.Turn
public import proofs.«01_k».proof.Proof.Gen.KernelIdeal.Frame
public import Idealize.ShloMosaic.Lib.Pipeline.Value
public import Idealize.ShloMosaic.Lib.Tactic
public import Idealize.ShloMosaic.Lib.Pointwise
public import Idealize.ShloMosaic.PureOps.Ideal

@[expose] public section

noncomputable section

namespace Cert.Values

open Idealize.ShloMosaic Idealize.ShloMosaic.TcCoe Idealize.SL.Sem
open Cert.KernelIdeal Cert.KernelIdeal.Gen

theorem hz2 : (![0, 0] : Fin 2 → Nat) = fun _ => 0 := funext fun a => by fin_cases a <;> rfl
theorem hz3 : (![0, 0, 0] : Fin 3 → Nat) = fun _ => 0 := funext fun a => by fin_cases a <;> rfl

/-- Lower end, upper end and count of a block's 256 searches. -/
abbrev Search : Type := FVec Ideal S256x1 .f32 × FVec Ideal S256x1 .f32 × FVec Ideal S256x1 .f32

section Blocks

variable (x0 x1 : Vec Ideal S256x4096 .f32) (x2 x3 : Vec Ideal S1x1 .f32)

/-- The first search's state after its 13 steps. -/
def searchA : Search :=
  Scf.fold (n := k0_t1_loop.trips) (fun _ s => (k0_pay12 (k0_pay5 x0 x1) s.1 s.2.1, k0_pay13 (k0_pay5 x0 x1) s.1 s.2.1,
    k0_pay14 (k0_pay5 x0 x1) s.1 s.2.1 s.2.2)) (k0_pay6, k0_pay7, k0_pay8 (Scalar.ofBits .f32 0x457FE000#32))

/-- The block's medians. -/
def medB : FVec Ideal S256x1 .f32 := k0_pay15 (k0_pay5 x0 x1) (searchA x0 x1).2.1 (searchA x0 x1).2.2

/-- The distances from the median, the invalid columns at `⊤`. -/
def devB : FVec Ideal S256x4096 .f32 :=
  k0_pay16 (k0_pay2 x0 x1) k0_pay3 (k0_pay5 x0 x1) (searchA x0 x1).2.1 (searchA x0 x1).2.2

/-- The second search's state after its 13 steps. -/
def searchB : Search :=
  Scf.fold (n := k0_t2_loop.trips) (fun _ s =>
    (k0_pay23 (k0_pay2 x0 x1) k0_pay3 (k0_pay5 x0 x1) (searchA x0 x1).2.1 (searchA x0 x1).2.2 s.1 s.2.1,
     k0_pay24 (k0_pay2 x0 x1) k0_pay3 (k0_pay5 x0 x1) (searchA x0 x1).2.1 (searchA x0 x1).2.2 s.1 s.2.1,
     k0_pay25 (k0_pay2 x0 x1) k0_pay3 (k0_pay5 x0 x1) (searchA x0 x1).2.1 (searchA x0 x1).2.2 s.1 s.2.1 s.2.2))
    (k0_pay17, k0_pay18, k0_pay19)

/-- The block's median distances. -/
def madB : FVec Ideal S256x1 .f32 :=
  k0_pay26 (k0_pay2 x0 x1) k0_pay3 (k0_pay5 x0 x1) (searchA x0 x1).2.1 (searchA x0 x1).2.2
    (searchB x0 x1).2.1 (searchB x0 x1).2.2

end Blocks

variable (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S256x4096 .f32) (harg5 : arg5.IsWhole) (arg6 : Memref sig .tc .vmem S256x4096 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S1x1x1 .f32) (harg10 : arg10.IsWhole)
  (x0 x1 : Vec Ideal S256x4096 .f32) (x2 x3 : Vec Ideal S1x1 .f32)

/-- Result block 1: the turning values. -/
theorem out4 : out0_A_4 c i arg1 harg1 arg2 harg2 arg3 harg3 arg4 harg4 arg5 harg5 arg6 harg6 arg7 harg7 arg8 harg8 arg9 harg9 arg10 harg10 x0 x1 x2 x3
    = k0_pay2 x0 x1 := by
  unfold out0_A_4
  rw [View.read_writes_eq_canon _ _ _ (cover0_A_4 c i arg1 harg1 arg2 harg2 arg3 harg3 arg4 harg4 arg5 harg5 arg6 harg6 arg7 harg7 arg8 harg8 arg9 harg9 arg10 harg10 x0 x1 x2 x3)]
  unfold kernelRun0_A
  dsimp only
  sl_unfold_words
  rw [View.canon_unit_zero hz2]
  simp only [View.readAt_eq_ld, harg1.read_unread, harg2.read_unread, harg3.read_unread, harg4.read_unread,
    View.ld_unit_zero (S := S256x4096) hz2, View.ld_unit_zero (S := S1x1) hz2]

/-- Result block 2: the gates. -/
theorem out5 : out0_A_5 c i arg1 harg1 arg2 harg2 arg3 harg3 arg4 harg4 arg5 harg5 arg6 harg6 arg7 harg7 arg8 harg8 arg9 harg9 arg10 harg10 x0 x1 x2 x3
    = k0_pay29 (k0_pay2 x0 x1) k0_pay4 (medB x0 x1) (madB x0 x1) (k0_pay27 x2) x3 := by
  unfold out0_A_5
  rw [View.read_writes_eq_canon _ _ _ (cover0_A_5 c i arg1 harg1 arg2 harg2 arg3 harg3 arg4 harg4 arg5 harg5 arg6 harg6 arg7 harg7 arg8 harg8 arg9 harg9 arg10 harg10 x0 x1 x2 x3)]
  unfold kernelRun0_A
  dsimp only
  sl_unfold_words
  rw [View.canon_unit_zero hz2]
  simp only [View.readAt_eq_ld, harg1.read_unread, harg2.read_unread, harg3.read_unread, harg4.read_unread,
    View.ld_unit_zero (S := S256x4096) hz2, View.ld_unit_zero (S := S1x1) hz2]
  rfl

/-- Result block 3: the scales. -/
theorem out6 : out0_A_6 c i arg1 harg1 arg2 harg2 arg3 harg3 arg4 harg4 arg5 harg5 arg6 harg6 arg7 harg7 arg8 harg8 arg9 harg9 arg10 harg10 x0 x1 x2 x3
    = k0_pay28 (medB x0 x1) (madB x0 x1) x3 := by
  unfold out0_A_6
  rw [View.read_writes_eq_canon _ _ _ (cover0_A_6 c i arg1 harg1 arg2 harg2 arg3 harg3 arg4 harg4 arg5 harg5 arg6 harg6 arg7 harg7 arg8 harg8 arg9 harg9 arg10 harg10 x0 x1 x2 x3)]
  unfold kernelRun0_A
  dsimp only
  sl_unfold_words
  rw [View.canon_unit_zero hz2]
  simp only [View.readAt_eq_ld, harg1.read_unread, harg2.read_unread, harg3.read_unread, harg4.read_unread,
    View.ld_unit_zero (S := S256x4096) hz2, View.ld_unit_zero (S := S1x1) hz2]
  rfl

/-- Result block 4: the medians. -/
theorem out7 : out0_A_7 c i arg1 harg1 arg2 harg2 arg3 harg3 arg4 harg4 arg5 harg5 arg6 harg6 arg7 harg7 arg8 harg8 arg9 harg9 arg10 harg10 x0 x1 x2 x3
    = medB x0 x1 := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 x0 x1 x2 x3)]
  unfold kernelRun0_A
  dsimp only
  sl_unfold_words
  rw [View.canon_unit_zero hz2]
  simp only [View.readAt_eq_ld, harg1.read_unread, harg2.read_unread, harg3.read_unread, harg4.read_unread,
    View.ld_unit_zero (S := S256x4096) hz2, View.ld_unit_zero (S := S1x1) hz2]
  rfl

/-- Result block 5: the median distances. -/
theorem out8 : out0_A_8 c i arg1 harg1 arg2 harg2 arg3 harg3 arg4 harg4 arg5 harg5 arg6 harg6 arg7 harg7 arg8 harg8 arg9 harg9 arg10 harg10 x0 x1 x2 x3
    = madB x0 x1 := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 x0 x1 x2 x3)]
  unfold kernelRun0_A
  dsimp only
  sl_unfold_words
  rw [View.canon_unit_zero hz2]
  simp only [View.readAt_eq_ld, harg1.read_unread, harg2.read_unread, harg3.read_unread, harg4.read_unread,
    View.ld_unit_zero (S := S256x4096) hz2, View.ld_unit_zero (S := S1x1) hz2]
  rfl

/-- Result block 6: the block's share of the loss. -/
theorem out9 : out0_A_9 c i arg1 harg1 arg2 harg2 arg3 harg3 arg4 harg4 arg5 harg5 arg6 harg6 arg7 harg7 arg8 harg8 arg9 harg9 arg10 harg10 x0 x1 x2 x3
    = k0_pay1 (k0_pay30 (k0_pay2 x0 x1) k0_pay4 (medB x0 x1) (madB x0 x1) (k0_pay27 x2) x3) := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 x0 x1 x2 x3)]
  unfold kernelRun0_A
  dsimp only
  sl_unfold_words
  rw [View.canon_unit_zero hz3]
  simp only [View.readAt_eq_ld, harg1.read_unread, harg2.read_unread, harg3.read_unread, harg4.read_unread,
    View.ld_unit_zero (S := S256x4096) hz2, View.ld_unit_zero (S := S1x1) hz2]
  rfl

end Cert.Values
-- ==== Proof.Values.Payload.lean ====
/- The kernel's block values row by row. -/
module

public import proofs.«01_k».proof.Proof.Values.Block

@[expose] public section

set_option maxRecDepth 16384

noncomputable section

namespace Cert.Values

open Idealize.ShloMosaic Idealize.ShloMosaic.TcCoe Idealize.SL.Sem
open Cert.KernelIdeal Cert.KernelIdeal.Gen

/-- The kernel's column test, as a bit, is the test for an inner column. -/
theorem inner_bit (k : Fin 4096) : IntOp.andi (IntOp.cmpi CmpIPredicate.sge (BitVec.ofNat 32 ↑k) 1#32)
      (IntOp.cmpi CmpIPredicate.sle (BitVec.ofNat 32 ↑k) 4094#32) = BitVec.ofBool (decide (inner k)) := by
  have hk := k.isLt
  have hi : (BitVec.ofNat 32 k.val).toInt = k.val := by
    rw [BitVec.toInt_eq_toNat_of_lt (by rw [BitVec.toNat_ofNat]; omega), BitVec.toNat_ofNat, Nat.mod_eq_of_lt (by omega)]
  have h1 : (1#32).sle (BitVec.ofNat 32 k.val) = decide (1 ≤ k.val) := by
    rw [BitVec.sle_eq_decide, hi]
    simp
  have h2 : (BitVec.ofNat 32 k.val).sle 4094#32 = decide (k.val ≤ 4094) := by
    rw [BitVec.sle_eq_decide, hi]
    simp
  show BitVec.ofBool _ &&& BitVec.ofBool _ = _
  simp only [h1, h2]
  unfold inner
  by_cases a : 1 ≤ k.val <;> by_cases b : k.val ≤ 4094 <;> simp [a, b]

theorem pay3_at (r : Fin 256) (k : Fin 4096) : k0_pay3 (ix2 r k) = BitVec.ofBool (decide (inner k)) := by
  pointwise [k0_pay3]
  exact inner_bit k

theorem pay4_at (r : Fin 256) (k : Fin 4096) :
    (k0_pay4 (F := Ideal) (ix2 r k) : EReal) = if inner k then 1 else 0 := by
  pointwise [k0_pay4]
  rw [pay3_at]
  exact indicator_eq _

section Row

variable (x0 x1 : Vec Ideal S256x4096 .f32) (r : Fin 256) (X Y : Fin 4096 → EReal)

set_option maxHeartbeats 1000000 in
/-- The turning values of a row of the block. -/
theorem pay2_at (hx : ∀ k, x0 (ix2 r k) = X k) (hy : ∀ k, x1 (ix2 r k) = Y k) (ha : Apart X Y)
    (k : Fin 4096) : (k0_pay2 x0 x1 (ix2 r k) : EReal) = ((turns X Y k : ℝ) : EReal) := by
  pointwise [k0_pay2]
  simp only [hx, hy]
  by_cases hk : inner k
  · obtain ⟨hk1, hk2⟩ := id hk
    have h3 := ha (k.val - 1) (by omega)
    simp only [show k.val - 1 + 1 = k.val from by omega, Fin.eta] at h3
    have h4 := ha k.val (by omega)
    simp only [Fin.eta] at h4
    rw [dif_neg (by omega), dif_pos (by omega)]
    simp only [show 1 + (k.val - 1) = k.val from by omega, show 1 + k.val = k.val + 1 from by omega, Fin.eta]
    exact (turn_by_lengths _ _ _ _ h3 h4).trans (congrArg _ (turns_inner X Y k hk).symm)
  · have hz := EReal.coe_zero.symm.trans (congrArg Real.toEReal (turns_outer X Y k hk).symm)
    by_cases h0 : k.val < 1
    · rw [dif_pos h0]
      exact hz
    · rw [dif_neg h0, dif_neg (fun h => hk ⟨by omega, by omega⟩)]
      exact hz

end Row

theorem trips1 : k0_t1_loop.trips = 13 := by decide
theorem trips2 : k0_t2_loop.trips = 13 := by decide

end Cert.Values

end
-- ==== Proof.Values.Search.lean ====
/-
  The kernel's two searches row by row: each row of a search's state is what the same search gives on that row alone, so
  each median is the searched median of its row.
-/
module

public import proofs.«01_k».proof.Proof.Values.Payload

@[expose] public section

set_option maxRecDepth 16384

noncomputable section

namespace Cert.Values

open Idealize.ShloMosaic Idealize.ShloMosaic.TcCoe Idealize.SL.Sem
open Cert.KernelIdeal Cert.KernelIdeal.Gen

/-- Row `r` of a search's state. -/
def Search.row (s : Search) (r : Fin 256) : EReal × EReal × EReal := (s.1 (ix2 r 0), s.2.1 (ix2 r 0), s.2.2 (ix2 r 0))

section Step

variable (v : FVec Ideal S256x4096 .f32) (r : Fin 256) (y : Fin 4096 → EReal) (hv : ∀ k, v (ix2 r k) = y k)
  (a b c : FVec Ideal S256x1 .f32)

theorem middle_at : (k0_pay9 a b (ix2 r 0) : EReal) = middle (a (ix2 r 0)) (b (ix2 r 0)) := by
  pointwise [k0_pay9]
  rfl

include hv in
theorem tally_at : (k0_pay10 v a b (ix2 r 0) : EReal) = tally y (middle (a (ix2 r 0)) (b (ix2 r 0))) := by
  unfold tally
  rw [← middle_at]
  pointwise [k0_pay10]
  exact Finset.sum_congr rfl fun k _ => by rw [hv k]; exact indicator_eq _

include hv in
/-- The test of a step, as a bit. -/
theorem test_at : k0_pay11 v a b (ix2 r 0)
    = BitVec.ofBool (decide (Ideal.ofBits .f32 0x44FFE000#32 ≤ tally y (middle (a (ix2 r 0)) (b (ix2 r 0))))) := by
  rw [← tally_at v r y hv a b]
  rfl

/-- A choice by a test's bit is the choice by the test. -/
theorem choice {α : Type} (p : Prop) [Decidable p] (x z : α) :
    (if BitVec.ofBool (decide p) = 1#1 then x else z) = if p then x else z := by
  by_cases h : p <;> simp [h]

include hv in
/-- One step of the search on one row. -/
theorem step_row : Search.row (k0_pay12 v a b, k0_pay13 v a b, k0_pay14 v a b c) r = halve y (Search.row (a, b, c) r) := by
  unfold Search.row halve
  refine Prod.ext ?_ (Prod.ext ?_ ?_)
  · show (if k0_pay11 v a b (ix2 r 0) = 1#1 then a (ix2 r 0) else k0_pay9 a b (ix2 r 0)) = _
    rw [test_at v r y hv, choice, middle_at]
  · show (if k0_pay11 v a b (ix2 r 0) = 1#1 then k0_pay9 a b (ix2 r 0) else b (ix2 r 0)) = _
    rw [test_at v r y hv, choice, middle_at]
  · show (if k0_pay11 v a b (ix2 r 0) = 1#1 then k0_pay10 v a b (ix2 r 0) else c (ix2 r 0)) = _
    rw [test_at v r y hv, choice, tally_at v r y hv]

include hv in
/-- `n` steps of the search on one row. -/
theorem steps_row (n : ℕ) (s : Search) :
    Search.row (Scf.fold (n := n) (fun _ s => (k0_pay12 v s.1 s.2.1, k0_pay13 v s.1 s.2.1, k0_pay14 v s.1 s.2.1 s.2.2)) s) r
      = (halve y)^[n] (Search.row s r) := by
  rw [Scf.fold_eq]
  have : ∀ (l : List (Fin n)) (s : Search), Search.row (l.foldl (fun s _ => (k0_pay12 v s.1 s.2.1, k0_pay13 v s.1 s.2.1,
      k0_pay14 v s.1 s.2.1 s.2.2)) s) r = (halve y)^[l.length] (Search.row s r) := by
    intro l
    induction l with
    | nil => intro s; rfl
    | cons _ l ih =>
      intro s
      rw [List.foldl_cons, ih, step_row v r y hv, List.length_cons, Function.iterate_succ_apply]
  rw [this, List.length_finRange]

include hv in
/-- The mean of the two middle values after the search. -/
theorem mean_at : (k0_pay15 v a b (ix2 r 0) : EReal) = searchMedian y (c (ix2 r 0), a (ix2 r 0), b (ix2 r 0)) := by
  unfold searchMedian
  pointwise [k0_pay15]
  simp only [hv]

end Step

section Row

variable (x0 x1 : Vec Ideal S256x4096 .f32) (r : Fin 256) (X Y : Fin 4096 → EReal)
  (hx : ∀ k, x0 (ix2 r k) = X k) (hy : ∀ k, x1 (ix2 r k) = Y k) (ha : Apart X Y)

include hx hy ha in
theorem pay5_at (k : Fin 4096) : (k0_pay5 x0 x1 (ix2 r k) : EReal) = innerRow (turns X Y) k := by
  show (if k0_pay3 (ix2 r k) = 1#1 then k0_pay2 x0 x1 (ix2 r k) else Ideal.ofBits .f32 0x7F800000#32) = _
  rw [pay3_at, choice, pay2_at x0 x1 r X Y hx hy ha, lit_top]
  rfl

include hx hy ha in
/-- The kernel's median of a row. -/
theorem medB_at : (medB x0 x1 (ix2 r 0) : EReal) = rowMedian (turns X Y) lowR highR := by
  have h := steps_row (k0_pay5 x0 x1) r _ (pay5_at x0 x1 r X Y hx hy ha) k0_t1_loop.trips
    (k0_pay6, k0_pay7, k0_pay8 (Scalar.ofBits .f32 0x457FE000#32))
  unfold medB
  rw [mean_at (k0_pay5 x0 x1) r _ (pay5_at x0 x1 r X Y hx hy ha) _ _ (searchA x0 x1).1]
  unfold rowMedian
  refine congrArg (searchMedian (innerRow (turns X Y))) (h.trans ?_)
  rw [trips1]
  refine congrArg _ ?_
  show (Ideal.ofBits .f32 0xBA83126F#32, Ideal.ofBits .f32 0x40001062#32, Ideal.ofBits .f32 0x457FE000#32) = _
  rw [lit_low, lit_high, lit_4094]

variable (m : ℝ) (hm : rowMedian (turns X Y) lowR highR = (m : EReal))

/-- The distances of a row's turning values from its median. -/
def gaps (X Y : Fin 4096 → EReal) (m : ℝ) (k : Fin 4096) : ℝ := |turns X Y k - m|

include hx hy ha hm in
theorem devB_at (k : Fin 4096) : (devB x0 x1 (ix2 r k) : EReal) = innerRow (gaps X Y m) k := by
  have h : (devB x0 x1 (ix2 r k) : EReal) = if k0_pay3 (ix2 r k) = 1#1 then
      max ((k0_pay2 x0 x1 (ix2 r k) : EReal) - medB x0 x1 (ix2 r 0)) (-((k0_pay2 x0 x1 (ix2 r k) : EReal) - medB x0 x1 (ix2 r 0)))
      else Ideal.ofBits .f32 0x7F800000#32 := by
    unfold devB medB
    pointwise [k0_pay16]
    rfl
  rw [h, pay3_at, choice, pay2_at x0 x1 r X Y hx hy ha, medB_at x0 x1 r X Y hx hy ha, hm, ← EReal.coe_sub, abs_coe, lit_top]
  rfl

include hx hy ha hm in
/-- The kernel's median distance of a row. -/
theorem madB_at : (madB x0 x1 (ix2 r 0) : EReal) = rowMedian (gaps X Y m) lowR highDevR := by
  have hd := devB_at x0 x1 r X Y hx hy ha m hm
  have h := steps_row (devB x0 x1) r _ hd k0_t2_loop.trips (k0_pay17, k0_pay18, k0_pay19)
  have e : madB x0 x1 = k0_pay15 (devB x0 x1) (searchB x0 x1).2.1 (searchB x0 x1).2.2 := rfl
  rw [e, mean_at (devB x0 x1) r _ hd _ _ (searchB x0 x1).1]
  unfold rowMedian
  have e2 : Search.row (searchB x0 x1) r = _ := h
  refine congrArg (searchMedian (innerRow (gaps X Y m))) (e2.trans ?_)
  rw [trips2]
  refine congrArg _ ?_
  show (Ideal.ofBits .f32 0xBA83126F#32, Ideal.ofBits .f32 0x400051EC#32, Ideal.ofBits .f32 0x457FE000#32) = _
  rw [lit_low, lit_highDev, lit_4094]

end Row

end Cert.Values

end
-- ==== Proof.Values.Gate.lean ====
/-
  The values of one curve: its median turning, the median distance from it, its scale and its gates; and what a block of
  the kernel holds for each of its rows, in these terms.
-/
module

public import proofs.«01_k».proof.Proof.Values.Search

@[expose] public section

set_option maxRecDepth 16384

noncomputable section

namespace Cert.Values

open Idealize.ShloMosaic Idealize.ShloMosaic.TcCoe Idealize.SL.Sem
open Cert.KernelIdeal Cert.KernelIdeal.Gen

/-- Every position of the sorted family is an order statistic. -/
theorem exists_kth (x : Fin 4096 → EReal) (k : Fin 4096) : ∃ v, IsKth x k v :=
  ⟨_, isKth_sorted x (fun a b => decide (x a < x b)) (fun a b => by simp) k⟩

theorem rowMedian_real (x : Fin 4096 → ℝ) (l h : ℝ) (hlh : l < h) (hl : ∀ k, l < x k) (hx : ∀ k, inner k → x k ≤ h) :
    ∃ r : ℝ, rowMedian x l h = (r : EReal) ∧ l ≤ r ∧ r ≤ h := by
  obtain ⟨v, hv⟩ := exists_kth (innerRow x) 2046
  obtain ⟨w, hw⟩ := exists_kth (innerRow x) 2047
  exact (rowMedian_eq x l h hlh hl hx v w hv hw).2

/-- The median turning of a curve. -/
def curveMed (X Y : Fin 4096 → EReal) : EReal := rowMedian (turns X Y) lowR highR

theorem turns_low (X Y : Fin 4096 → EReal) (k : Fin 4096) : lowR < turns X Y k := lowR_neg.trans_le (turns_mem X Y k).1

theorem turns_high (X Y : Fin 4096 → EReal) (k : Fin 4096) : turns X Y k ≤ highR := (turns_mem X Y k).2.trans highR_ge

theorem low_lt_high : lowR < highR := lowR_neg.trans_le ((by norm_num : (0 : ℝ) ≤ 2).trans highR_ge)

theorem curveMed_real (X Y : Fin 4096 → EReal) : ∃ r : ℝ, curveMed X Y = (r : EReal) ∧ lowR ≤ r ∧ r ≤ highR :=
  rowMedian_real _ _ _ low_lt_high (turns_low X Y) fun k _ => turns_high X Y k

theorem curveMed_coe (X Y : Fin 4096 → EReal) : curveMed X Y = ((curveMed X Y).toReal : EReal) := by
  obtain ⟨r, hr, -⟩ := curveMed_real X Y
  rw [hr, EReal.toReal_coe]

/-- The distances of a curve's turning values from their median. -/
def curveGaps (X Y : Fin 4096 → EReal) (k : Fin 4096) : ℝ := gaps X Y (curveMed X Y).toReal k

theorem curveGaps_low (X Y : Fin 4096 → EReal) (k : Fin 4096) : lowR < curveGaps X Y k := lowR_neg.trans_le (abs_nonneg _)

theorem curveGaps_high (X Y : Fin 4096 → EReal) (k : Fin 4096) : curveGaps X Y k ≤ highDevR := by
  obtain ⟨r, hr, h1, h2⟩ := curveMed_real X Y
  have ht := turns_mem X Y k
  have hd := highDev_ge
  unfold curveGaps gaps
  rw [hr, EReal.toReal_coe, abs_le]
  constructor <;> linarith [highR_ge, highR_lt]

/-- The median distance of a curve's turning values from their median. -/
def curveMad (X Y : Fin 4096 → EReal) : EReal := rowMedian (curveGaps X Y) lowR highDevR

/-- A curve's scale, from its two medians. -/
def scaleOf (gamma med mad : EReal) : EReal :=
  max (mad + gamma * med + Ideal.ofBits .f32 0x358637BD#32) (Ideal.ofBits .f32 0x358637BD#32)

/-- One on the inner columns, zero at the two ends. -/
def ind (k : Fin 4096) : EReal := if inner k then 1 else 0

/-- The gate of a turning value `rho` at a scale. -/
def gateOf (tau scale rho : EReal) (k : Fin 4096) : EReal :=
  (Ideal.ofBits .f32 0x3DCCCCCD#32 + Ideal.ofBits .f32 0x3F666666#32 * Ideal.exp
      (rho * Ideal.div (Ideal.ofBits .f32 0xBF800000#32) (max (tau * scale) (Ideal.ofBits .f32 0x358637BD#32)))) * ind k
    + (1 - ind k)

/-- A curve's scale. -/
def curveScale (gamma : EReal) (X Y : Fin 4096 → EReal) : EReal := scaleOf gamma (curveMed X Y) (curveMad X Y)

/-- A curve's gates. -/
def curveGate (tau gamma : EReal) (X Y : Fin 4096 → EReal) (k : Fin 4096) : EReal :=
  gateOf tau (curveScale gamma X Y) ((turns X Y k : ℝ) : EReal) k

/-- A curve's contribution to the loss. -/
def curvePart (tau gamma : EReal) (X Y : Fin 4096 → EReal) : EReal :=
  ∑ k, curveGate tau gamma X Y k * ((turns X Y k : ℝ) : EReal)

section Row

variable (x0 x1 : Vec Ideal S256x4096 .f32) (x2 x3 : Vec Ideal S1x1 .f32) (r : Fin 256) (X Y : Fin 4096 → EReal)
  (hx : ∀ k, x0 (ix2 r k) = X k) (hy : ∀ k, x1 (ix2 r k) = Y k) (ha : Apart X Y)

include hx hy ha in
theorem block_med : (medB x0 x1 (ix2 r 0) : EReal) = curveMed X Y := medB_at x0 x1 r X Y hx hy ha

include hx hy ha in
theorem block_mad : (madB x0 x1 (ix2 r 0) : EReal) = curveMad X Y :=
  madB_at x0 x1 r X Y hx hy ha _ (curveMed_coe X Y)

include hx hy ha in
theorem block_scale : (k0_pay28 (medB x0 x1) (madB x0 x1) x3 (ix2 r 0) : EReal) = curveScale (x3 (ix2 0 0)) X Y := by
  unfold curveScale scaleOf
  rw [← block_med x0 x1 r X Y hx hy ha, ← block_mad x0 x1 r X Y hx hy ha]
  pointwise [k0_pay28]

include hx hy ha in
theorem block_gate (k : Fin 4096) :
    (k0_pay29 (k0_pay2 x0 x1) k0_pay4 (medB x0 x1) (madB x0 x1) (k0_pay27 x2) x3 (ix2 r k) : EReal)
      = curveGate (x2 (ix2 0 0)) (x3 (ix2 0 0)) X Y k := by
  have h27 : (k0_pay27 x2 : Ideal .f32) = x2 (ix2 0 0) := by pointwise [k0_pay27]
  unfold curveGate gateOf ind
  rw [← block_scale x0 x1 x3 r X Y hx hy ha, ← pay2_at x0 x1 r X Y hx hy ha, ← pay4_at r k, h27]
  pointwise [k0_pay29]

end Row

/-- The block's share of the loss is the sum of its rows'. -/
theorem block_part (x0 x1 : Vec Ideal S256x4096 .f32) (x2 x3 : Vec Ideal S1x1 .f32) (X Y : Fin 256 → Fin 4096 → EReal)
    (hx : ∀ r k, x0 (ix2 r k) = X r k) (hy : ∀ r k, x1 (ix2 r k) = Y r k) (ha : ∀ r, Apart (X r) (Y r)) :
    (k0_pay1 (k0_pay30 (k0_pay2 x0 x1) k0_pay4 (medB x0 x1) (madB x0 x1) (k0_pay27 x2) x3) (ix3 0 0 0) : EReal)
      = ∑ r, curvePart (x2 (ix2 0 0)) (x3 (ix2 0 0)) (X r) (Y r) := by
  unfold curvePart
  pointwise [k0_pay1, k0_pay30]
  refine Finset.sum_congr rfl fun r _ => Finset.sum_congr rfl fun k _ => ?_
  rw [block_gate x0 x1 x2 x3 r (X r) (Y r) (hx r) (hy r) (ha r) k, pay2_at x0 x1 r (X r) (Y r) (hx r) (hy r) (ha r)]

end Cert.Values

end
-- ==== Proof.Values.Arrays.lean ====
/-
  What the kernel's six result arrays hold after the run, curve by curve.
-/
module

public import proofs.«01_k».proof.Proof.Values.Gate
public import Idealize.ShloMosaic.Lib.Pipeline.ValueKit
public import Idealize.ShloMosaic.Lib.StableHlo.ReadAt

@[expose] public section

set_option maxRecDepth 16384

noncomputable section

namespace Cert.Values

open Idealize.ShloMosaic Idealize.ShloMosaic.TcCoe Idealize.SL.Sem
open Cert.KernelIdeal Cert.KernelIdeal.Gen

variable (m : (ℓ : Loc nD τ sig) → Buf (Elt Ideal) ℓ) (c : Dev nD)

/-- The temperature and the weight of the median, as the kernel computes them from its scalar arguments. -/
def tauOf : EReal := V m c main_v7 (ix2 0 0)
def gammaOf : EReal := V m c main_v9 (ix2 0 0)

/-- The row of the whole array that row `r` of point `t`'s block is. -/
def rowAt (t : Fin cfg0.N) (r : Fin 256) : Fin 1024 := ⟨t.val * 256 + r.val, by
  have := t.isLt; have hN : cfg0.N = 4 := N_0; omega⟩

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![t.val, 0] := (by decide +kernel : ∀ t : Fin grid0.N, _)
theorem index6 : ∀ t : Fin cfg0.N, win0_6.index t = ![t.val, 0] := (by decide +kernel : ∀ t : Fin grid0.N, _)
theorem index7 : ∀ t : Fin cfg0.N, win0_7.index t = ![t.val, 0] := (by decide +kernel : ∀ t : Fin grid0.N, _)
theorem index8 : ∀ t : Fin cfg0.N, win0_8.index t = ![t.val, 0] := (by decide +kernel : ∀ t : Fin grid0.N, _)
theorem index9 : ∀ t : Fin cfg0.N, win0_9.index t = ![t.val, 0, 0] := (by decide +kernel : ∀ t : Fin grid0.N, _)

theorem first_at (b : Fin 1024) (k : Fin 4096) :
    (V m c main_v2 (ix2 b k) : EReal) = m (c, Proc.tc.devRef main_arg0) (ix3 b k 0) := by
  unfold V V0
  after_reads_at

theorem second_at (b : Fin 1024) (k : Fin 4096) :
    (V m c main_v4 (ix2 b k) : EReal) = m (c, Proc.tc.devRef main_arg0) (ix3 b k 1) := by
  unfold V V0
  after_reads_at

theorem emb0 (t : Fin cfg0.N) (r : Fin 256) (k : Fin 4096) : (win0_0.blk t).view.emb (ix2 r k) = ix2 (rowAt t r) k := by
  blk_ext [index0 t, rowAt]
theorem emb1 (t : Fin cfg0.N) (r : Fin 256) (k : Fin 4096) : (win0_1.blk t).view.emb (ix2 r k) = ix2 (rowAt t r) k := by
  blk_ext [index1 t, rowAt]
theorem emb2 (t : Fin cfg0.N) : (win0_2.blk t).view.emb (ix2 0 0) = ix2 0 0 := by
  blk_ext [index2 t]
theorem emb3 (t : Fin cfg0.N) : (win0_3.blk t).view.emb (ix2 0 0) = ix2 0 0 := by
  blk_ext [index3 t]
theorem emb4 (t : Fin cfg0.N) (r : Fin 256) (k : Fin 4096) : (win0_4.blk t).view.emb (ix2 r k) = ix2 (rowAt t r) k := by
  blk_ext [index4 t, rowAt]
theorem emb5 (t : Fin cfg0.N) (r : Fin 256) (k : Fin 4096) : (win0_5.blk t).view.emb (ix2 r k) = ix2 (rowAt t r) k := by
  blk_ext [index5 t, rowAt]
theorem emb6 (t : Fin cfg0.N) (r : Fin 256) : (win0_6.blk t).view.emb (ix2 r 0) = ix2 (rowAt t r) 0 := by
  blk_ext [index6 t, rowAt]
theorem emb7 (t : Fin cfg0.N) (r : Fin 256) : (win0_7.blk t).view.emb (ix2 r 0) = ix2 (rowAt t r) 0 := by
  blk_ext [index7 t, rowAt]
theorem emb8 (t : Fin cfg0.N) (r : Fin 256) : (win0_8.blk t).view.emb (ix2 r 0) = ix2 (rowAt t r) 0 := by
  blk_ext [index8 t, rowAt]
theorem emb9 (t : Fin cfg0.N) : (win0_9.blk t).view.emb (ix3 0 0 0) = ix3 (⟨t.val, t.isLt⟩ : Fin 4) 0 0 := by
  blk_ext [index9 t]

variable (X Y : Fin 1024 → Fin 4096 → EReal)
  (hx : ∀ b k, m (c, Proc.tc.devRef main_arg0) (ix3 b k 0) = X b k)
  (hy : ∀ b k, m (c, Proc.tc.devRef main_arg0) (ix3 b k 1) = Y b k)
  (ha : ∀ b, Apart (X b) (Y b))

include hx in
theorem block_first (t : Fin cfg0.N) (r : Fin 256) (k : Fin 4096) : (iblk m c 0 t (ix2 r k) : EReal) = (X (rowAt t r) k : EReal) := by
  blk_simp [iblk]
  rw [emb0, first_at, hx]

include hy in
theorem block_second (t : Fin cfg0.N) (r : Fin 256) (k : Fin 4096) : (iblk m c 1 t (ix2 r k) : EReal) = (Y (rowAt t r) k : EReal) := by
  blk_simp [iblk]
  rw [emb1, second_at, hy]

theorem block_tau (t : Fin cfg0.N) : (iblk m c 2 t (ix2 0 0) : EReal) = tauOf m c := by
  blk_simp [iblk]
  rw [emb2, tauOf]

theorem block_gamma (t : Fin cfg0.N) : (iblk m c 3 t (ix2 0 0) : EReal) = gammaOf m c := by
  blk_simp [iblk]
  rw [emb3, gammaOf]

include hx hy ha in
/-- The turning values. -/
theorem array_turns : ((dats m 0 c).arrAt 4 cfg0.N : FVec Ideal S1024x4096 .f32) = fun j : S1024x4096.Idx => ((turns (X (j 0)) (Y (j 0)) (j 1) : ℝ) : EReal) := by
  refine (dats m 0 c).arrAt_eq_of_covers 4 _ (by decide +kernel) fun t hf y => ?_
  blk_simp
  rw [after0_4]
  unfold outsAt0
  dsimp only
  rw [out4]
  idx_vars y
  refine Eq.trans ?_ (congrArg (fun j : S1024x4096.Idx => ((turns (X (j 0)) (Y (j 0)) (j 1) : ℝ) : EReal)) (emb4 t y0 y1)).symm
  refine (pay2_at _ _ y0 _ _ (block_first m c X hx t y0) (block_second m c Y hy t y0) (ha _) y1).trans ?_
  rfl

include hx hy ha in
/-- The gates. -/
theorem array_gate : ((dats m 0 c).arrAt 5 cfg0.N : FVec Ideal S1024x4096 .f32) = fun j : S1024x4096.Idx => curveGate (tauOf m c) (gammaOf m c) (X (j 0)) (Y (j 0)) (j 1) := by
  refine (dats m 0 c).arrAt_eq_of_covers 5 _ (by decide +kernel) fun t hf y => ?_
  blk_simp
  rw [after0_5]
  unfold outsAt0
  dsimp only
  rw [out5]
  idx_vars y
  refine Eq.trans ?_ (congrArg (fun j : S1024x4096.Idx => curveGate (tauOf m c) (gammaOf m c) (X (j 0)) (Y (j 0)) (j 1)) (emb5 t y0 y1)).symm
  refine (block_gate _ _ (iblk m c 2 t) (iblk m c 3 t) y0 _ _ (block_first m c X hx t y0) (block_second m c Y hy t y0) (ha _) y1).trans ?_
  rw [block_tau, block_gamma]
  rfl

include hx hy ha in
/-- The scales. -/
theorem array_scale : ((dats m 0 c).arrAt 6 cfg0.N : FVec Ideal S1024x1 .f32) = fun j : S1024x1.Idx => curveScale (gammaOf m c) (X (j 0)) (Y (j 0)) := by
  refine (dats m 0 c).arrAt_eq_of_covers 6 _ (by decide +kernel) fun t hf y => ?_
  blk_simp
  rw [after0_6]
  unfold outsAt0
  dsimp only
  rw [out6]
  idx_vars y
  obtain rfl : y1 = 0 := Subsingleton.elim _ _
  refine Eq.trans ?_ (congrArg (fun j : S1024x1.Idx => curveScale (gammaOf m c) (X (j 0)) (Y (j 0))) (emb6 t y0)).symm
  refine (block_scale _ _ (iblk m c 3 t) y0 _ _ (block_first m c X hx t y0) (block_second m c Y hy t y0) (ha _)).trans ?_
  rw [block_gamma]
  rfl

include hx hy ha in
/-- The medians. -/
theorem array_med : ((dats m 0 c).arrAt 7 cfg0.N : FVec Ideal S1024x1 .f32) = fun j : S1024x1.Idx => curveMed (X (j 0)) (Y (j 0)) := by
  refine (dats m 0 c).arrAt_eq_of_covers 7 _ (by decide +kernel) fun t hf y => ?_
  blk_simp
  rw [after0_7]
  unfold outsAt0
  dsimp only
  rw [out7]
  idx_vars y
  obtain rfl : y1 = 0 := Subsingleton.elim _ _
  refine Eq.trans ?_ (congrArg (fun j : S1024x1.Idx => curveMed (X (j 0)) (Y (j 0))) (emb7 t y0)).symm
  refine (block_med _ _ y0 _ _ (block_first m c X hx t y0) (block_second m c Y hy t y0) (ha _)).trans ?_
  rfl

include hx hy ha in
/-- The median distances. -/
theorem array_mad : ((dats m 0 c).arrAt 8 cfg0.N : FVec Ideal S1024x1 .f32) = fun j : S1024x1.Idx => curveMad (X (j 0)) (Y (j 0)) := by
  refine (dats m 0 c).arrAt_eq_of_covers 8 _ (by decide +kernel) fun t hf y => ?_
  blk_simp
  rw [after0_8]
  unfold outsAt0
  dsimp only
  rw [out8]
  idx_vars y
  obtain rfl : y1 = 0 := Subsingleton.elim _ _
  refine Eq.trans ?_ (congrArg (fun j : S1024x1.Idx => curveMad (X (j 0)) (Y (j 0))) (emb8 t y0)).symm
  refine (block_mad _ _ y0 _ _ (block_first m c X hx t y0) (block_second m c Y hy t y0) (ha _)).trans ?_
  rfl

/-- Row `r` of the `t`-th block of 256 rows. -/
def rowOf (t : Fin 4) (r : Fin 256) : Fin 1024 := ⟨t.val * 256 + r.val, by omega⟩

set_option maxHeartbeats 1000000 in
include hx hy ha in
/-- The blocks' shares of the loss. -/
theorem array_part : ((dats m 0 c).arrAt 9 cfg0.N : FVec Ideal S4x1x1 .f32) = fun j : S4x1x1.Idx => ∑ r, curvePart (tauOf m c) (gammaOf m c) (X (rowOf (j 0) r)) (Y (rowOf (j 0) r)) := by
  refine (dats m 0 c).arrAt_eq_of_covers 9 _ (by decide +kernel) fun t hf y => ?_
  blk_simp
  rw [after0_9]
  unfold outsAt0
  dsimp only
  rw [out9]
  idx_vars y
  obtain rfl : y0 = 0 := Subsingleton.elim _ _
  obtain rfl : y1 = 0 := Subsingleton.elim _ _
  obtain rfl : y2 = 0 := Subsingleton.elim _ _
  refine Eq.trans ?_ (congrArg (fun j : S4x1x1.Idx => ∑ r, curvePart (tauOf m c) (gammaOf m c) (X (rowOf (j 0) r)) (Y (rowOf (j 0) r))) (emb9 t)).symm
  refine (block_part _ _ (iblk m c 2 t) (iblk m c 3 t) _ _ (block_first m c X hx t) (block_second m c Y hy t) (fun _ => ha _)).trans ?_
  rw [block_tau, block_gamma]
  rfl

end Cert.Values

end
-- ==== Proof.Values.KernelRun.lean ====
/-
  What a run of the kernel's program leaves in its six results, and that it leaves its arguments unchanged.
-/
module

public import proofs.«01_k».proof.Proof.Values.Arrays

@[expose] public section

set_option maxRecDepth 16384

noncomputable section

namespace Cert.Values

open Idealize.ShloMosaic Idealize.ShloMosaic.TcCoe Idealize.SL.Sem
open Cert.KernelIdeal Cert.KernelIdeal.Gen

/-- The softplus of a scalar, as both programs compute it. -/
def softplus (x : EReal) : EReal :=
  if x ≠ x then x else max x 0 + Ideal.log1p (Ideal.exp (-FloatOps.absf (F := Ideal) (φ := .f32) x))

variable (m : (ℓ : Loc nD τ sig) → Buf (Elt Ideal) ℓ) (c : Dev nD)

theorem tauOf_eq : tauOf m c = softplus (m (c, Proc.tc.devRef main_arg2) ix0) + Ideal.ofBits .f32 0x358637BD#32 := by
  unfold tauOf softplus
  unfold V V0
  after_reads_at

theorem gammaOf_eq : gammaOf m c = softplus (m (c, Proc.tc.devRef main_arg3) ix0) := by
  unfold gammaOf softplus
  unfold V V0
  after_reads_at

section Results

variable (tau gamma : EReal) (X Y : Fin 1024 → Fin 4096 → EReal)

/-- The turning values of all curves. -/
def resTurns : FVec Ideal S1024x4096 .f32 := fun j => ((turns (X (j 0)) (Y (j 0)) (j 1) : ℝ) : EReal)
/-- The gates of all curves. -/
def resGate : FVec Ideal S1024x4096 .f32 := fun j => curveGate tau gamma (X (j 0)) (Y (j 0)) (j 1)
/-- The scales of all curves. -/
def resScale : FVec Ideal S1024 .f32 := fun j => curveScale gamma (X (j 0)) (Y (j 0))
/-- The median turnings of all curves. -/
def resMed : FVec Ideal S1024 .f32 := fun j => curveMed (X (j 0)) (Y (j 0))
/-- The median distances of all curves. -/
def resMad : FVec Ideal S1024 .f32 := fun j => curveMad (X (j 0)) (Y (j 0))
/-- The loss. -/
def resLoss : FVec Ideal S_ .f32 := fun _ =>
  Ideal.div (∑ t : Fin 4, ∑ r : Fin 256, curvePart tau gamma (X (rowOf t r)) (Y (rowOf t r))) (Ideal.ofBits .f32 0x4A7FE000#32)

end Results

/-- A result array of the region, as the lines after the region find it. -/
theorem found (w : Fin (cfgs 0).W) :
    Pipeline.withArrays (cfgs 0).spec c (V0 m c) (fun w => (dats m 0 c).arrAt w (cfgs 0).N)
      (Proc.devRef .tc (Pipeline.arrRef (cfgs 0).spec w)) = (dats m 0 c).arrAt w (cfgs 0).N :=
  Pipeline.withArrays_arr (cfgs 0).spec launch0.win.arr_inj c _ _ w

variable (X Y : Fin 1024 → Fin 4096 → EReal)
  (hx : ∀ b k, m (c, Proc.tc.devRef main_arg0) (ix3 b k 0) = X b k)
  (hy : ∀ b k, m (c, Proc.tc.devRef main_arg0) (ix3 b k 1) = Y b k)
  (ha : ∀ b, Apart (X b) (Y b))

include hx hy ha in
theorem after_scale : (Pipeline.afterTail₀ cfgs (dats m) 0 (V0 m) [hostOps1] c main_v13 : FVec Ideal S1024 .f32)
    = resScale (gammaOf m c) X Y := by
  funext j
  idx_vars j
  unfold Pipeline.afterTail₀
  after_reads_at
  exact congrFun ((found m c 6).trans (array_scale m c X Y hx hy ha)) (ix2 j0 0)

include hx hy ha in
theorem after_med : (Pipeline.afterTail₀ cfgs (dats m) 0 (V0 m) [hostOps1] c main_v14 : FVec Ideal S1024 .f32)
    = resMed X Y := by
  funext j
  idx_vars j
  unfold Pipeline.afterTail₀
  after_reads_at
  exact congrFun ((found m c 7).trans (array_med m c X Y hx hy ha)) (ix2 j0 0)

include hx hy ha in
theorem after_mad : (Pipeline.afterTail₀ cfgs (dats m) 0 (V0 m) [hostOps1] c main_v15 : FVec Ideal S1024 .f32)
    = resMad X Y := by
  funext j
  idx_vars j
  unfold Pipeline.afterTail₀
  after_reads_at
  exact congrFun ((found m c 8).trans (array_mad m c X Y hx hy ha)) (ix2 j0 0)

include hx hy ha in
theorem after_loss : (Pipeline.afterTail₀ cfgs (dats m) 0 (V0 m) [hostOps1] c main_v12 : FVec Ideal S_ .f32)
    = resLoss (tauOf m c) (gammaOf m c) X Y := by
  funext j
  obtain rfl : j = ix0 := funext fun a => a.elim0
  unfold Pipeline.afterTail₀
  after_reads_at
  have h : ∀ k0 k1 k2, _ := fun k0 k1 k2 => congrFun ((found m c 9).trans (array_part m c X Y hx hy ha)) (ix3 k0 k1 k2)
  unfold resLoss
  refine congrArg (fun s => Ideal.div s _) (Finset.sum_congr rfl fun t _ => ?_)
  rw [Fin.sum_univ_one, Fin.sum_univ_one]
  exact h t 0 0

/-- A run of the kernel's program, from any memory whose first argument holds such curves. -/
theorem kernel_run (ρ : Dev nD → PrngReg) (X Y : Dev nD → Fin 1024 → Fin 4096 → EReal)
    (hx : ∀ c b k, m (c, Proc.tc.devRef main_arg0) (ix3 b k 0) = X c b k)
    (hy : ∀ c b k, m (c, Proc.tc.devRef main_arg0) (ix3 b k 1) = Y c b k)
    (ha : ∀ c b, Apart (X c b) (Y c b)) :
    θ_run (defs (F := Ideal)) (onTc (τ := τ) (main (F := Ideal))) ⟨m, fun _ => 0, ρ⟩ fun r => ∀ c : Dev nD,
      r.2.mem ((c.tc : Thread nD τ).loc main_v10_0) = resTurns (X c) (Y c)
      ∧ r.2.mem ((c.tc : Thread nD τ).loc main_v10_1) = resGate (tauOf m c) (gammaOf m c) (X c) (Y c)
      ∧ r.2.mem ((c.tc : Thread nD τ).loc main_v13) = resScale (gammaOf m c) (X c) (Y c)
      ∧ r.2.mem ((c.tc : Thread nD τ).loc main_v14) = resMed (X c) (Y c)
      ∧ r.2.mem ((c.tc : Thread nD τ).loc main_v15) = resMad (X c) (Y c)
      ∧ r.2.mem ((c.tc : Thread nD τ).loc main_v12) = resLoss (tauOf m c) (gammaOf m c) (X c) (Y c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h.2 c).1 4).trans (array_turns m c (X c) (Y c) (hx c) (hy c) (ha c)),
     ((h.2 c).1 5).trans (array_gate m c (X c) (Y c) (hx c) (hy c) (ha c)),
     ((h.2 c).2 main_v13 (by decide)).trans (after_scale m c (X c) (Y c) (hx c) (hy c) (ha c)),
     ((h.2 c).2 main_v14 (by decide)).trans (after_med m c (X c) (Y c) (hx c) (hy c) (ha c)),
     ((h.2 c).2 main_v15 (by decide)).trans (after_mad m c (X c) (Y c) (hx c) (hy c) (ha c)),
     ((h.2 c).2 main_v12 (by decide)).trans (after_loss m c (X c) (Y c) (hx c) (hy c) (ha c)),
     h.1 c⟩) (θ_run_and (unchanged m ρ) (run_main m ρ))

end Cert.Values

end
-- ==== Proof.Values.RefTurns.lean ====
/-
  The reference's turning values and its mask.
-/
module

public import proofs.«01_k».proof.Proof.Values.KernelRun
public import proofs.«01_k».proof.Proof.Gen.ReferenceIdeal.Read

@[expose] public section

set_option maxRecDepth 16384

noncomputable section

namespace Cert.Values

open Idealize.ShloMosaic Idealize.ShloMosaic.TcCoe Idealize.SL.Sem
open Cert.ReferenceIdeal Cert.ReferenceIdeal.Gen Cert.ReferenceIdeal.Read

variable (x0 : Vec Ideal S1024x4096x2 .f32) (x1 : Vec Ideal S1024x4096 .f32)

/-- The mask, the given one being one on the inner columns, marks just these. -/
theorem mask_at (hm : ∀ b k, inner k → (x1 (ix2 b k) : EReal) = 1) (b : Fin 1024) (k : Fin 4096) :
    (val_main_v41 (F := Ideal) x1 (ix2 b k) : EReal) = ind k := by
  pointwise [val_main_v41, val_main_v40, val_main_v39, val_main_cst_10, val_main_cst_11]
  unfold ind
  by_cases hk : inner k
  · obtain ⟨hk1, hk2⟩ := id hk
    rw [dif_pos ⟨hk1, by omega⟩, if_pos hk, hm b k hk, one_mul]
  · rw [dif_neg (fun h => hk ⟨h.1, by omega⟩), if_neg hk, mul_zero]

theorem mask_bit (hm : ∀ b k, inner k → (x1 (ix2 b k) : EReal) = 1) (b : Fin 1024) (k : Fin 4096) :
    val_main_v43 (F := Ideal) x1 (ix2 b k) = BitVec.ofBool (decide (inner k)) := by
  pointwise [val_main_v43, val_main_v42, val_main_cst_12]
  rw [mask_at x1 hm]
  unfold ind
  by_cases hk : inner k <;> simp [hk]

section Points

variable (X Y : Fin 1024 → Fin 4096 → EReal) (hx : ∀ b k, (x0 (ix3 b k 0) : EReal) = X b k)
  (hy : ∀ b k, (x0 (ix3 b k 1) : EReal) = Y b k) (ha : ∀ b, Apart (X b) (Y b))
include hx hy

/-- The step from one point to the next, over its length. -/
theorem unit_any (b : Fin 1024) (k : ℕ) (h : k + 1 < 4096) (i : Fin 2) :
    (val_main_v13 (F := Ideal) x0 (ix3 b ⟨k, by omega⟩ i) : EReal) =
      Ideal.div (x0 (ix3 b ⟨k + 1, h⟩ i) - x0 (ix3 b ⟨k, by omega⟩ i))
        (lengthOf ((X b ⟨k + 1, h⟩ - X b ⟨k, by omega⟩) * (X b ⟨k + 1, h⟩ - X b ⟨k, by omega⟩)
          + (Y b ⟨k + 1, h⟩ - Y b ⟨k, by omega⟩) * (Y b ⟨k + 1, h⟩ - Y b ⟨k, by omega⟩))) := by
  pointwise [val_main_v13, val_main_v12, val_main_v11, val_main_v10, val_main_v9, val_main_v8, val_main_v7, val_main_v6,
    val_main_v5, val_main_v4, val_main_v3, val_main_cst_0, val_main_cst_1]
  simp only [show 1 + k = k + 1 from by omega]
  rw [Fin.sum_univ_two]
  simp only [hx, hy, zero_add]
  rfl

include ha in
set_option maxHeartbeats 1000000 in
/-- The reference's turning values. -/
theorem turns_ref_at (b : Fin 1024) (k : Fin 4096) :
    (val_main_v38 (F := Ideal) x0 (ix2 b k) : EReal) = ((turns (X b) (Y b) k : ℝ) : EReal) := by
  pointwise [val_main_v38, val_main_v37, val_main_v36, val_main_v35, val_main_v34, val_main_v33, val_main_v32, val_main_v31,
    val_main_v30, val_main_v29, val_main_v28, val_main_v27, val_main_v26, val_main_v25, val_main_v24, val_main_v23,
    val_main_v22, val_main_v21, val_main_v20, val_main_v19, val_main_v18, val_main_v17, val_main_v16, val_main_v15, val_main_v14,
    val_main_cst_2, val_main_cst_3, val_main_cst_4, val_main_cst_5, val_main_cst_6, val_main_cst_7, val_main_cst_8, val_main_cst_9]
  by_cases hk : inner k
  · obtain ⟨hk1, hk2⟩ := id hk
    rw [dif_pos ⟨hk1, by omega⟩]
    simp only [Fin.sum_univ_two, zero_add]
    have e1 : 1 + (k.val - 1) = k.val := by omega
    have e2 : k.val - 1 + 1 = k.val := by omega
    have h1 := unit_any x0 X Y hx hy b (k.val - 1) (by omega) 0
    have h2 := unit_any x0 X Y hx hy b (k.val - 1) (by omega) 1
    have h3 := unit_any x0 X Y hx hy b k.val (by omega) 0
    have h4 := unit_any x0 X Y hx hy b k.val (by omega) 1
    have h5 := ha b (k.val - 1) (by omega)
    have h6 := ha b k.val (by omega)
    simp only [e2, Fin.eta] at h1 h2 h3 h4 h5 h6
    simp only [hx] at h1 h3
    simp only [hy] at h2 h4
    simp only [e1]
    exact (turn_by_units _ _ _ _ h5 h6 _ _ _ _ h1 h2 h3 h4).trans (congrArg _ (turns_inner (X b) (Y b) k hk).symm)
  · rw [dif_neg (fun h => hk ⟨h.1, by omega⟩), turns_outer _ _ _ hk]
    exact EReal.coe_zero.symm

end Points

end Cert.Values

end
-- ==== Proof.Values.RefCount.lean ====
/-
  The reference's positions of the two middle entries of a sorted row.
-/
module

public import proofs.«01_k».proof.Proof.Values.RefTurns
public import Idealize.ShloMosaic.Lib.ReduceAll
public import Idealize.ShloMosaic.Lib.Routing.Ops

@[expose] public section

set_option maxRecDepth 16384

noncomputable section

namespace Cert.Values

open Idealize.ShloMosaic Idealize.ShloMosaic.TcCoe Idealize.SL.Sem
open Cert.ReferenceIdeal Cert.ReferenceIdeal.Gen Cert.ReferenceIdeal.Read

/-- A table read in each row at one column number. -/
theorem gather_column {α : Type} (x : S1024x4096.Idx → α) (idx : IVec S1024x1x1 32) (n : Fin 4096)
    (hi : ∀ j, idx j = BitVec.ofNat 32 n.val) (b : Fin 1024) :
    Host.gather gather_S1024x4096_S1024x1x1_S1024x1_n_1_0_0_1_2_11 x idx (ix2 b 0) = x (ix2 b n) := by
  have hn : (BitVec.ofNat 32 n.val).toInt.toNat = n.val := by
    have := n.isLt
    rw [BitVec.toInt_eq_toNat_of_lt (by rw [BitVec.toNat_ofNat]; omega), BitVec.toNat_ofNat, Nat.mod_eq_of_lt (by omega)]
    rfl
  unfold Host.gather
  refine congrArg x (funext fun a => Fin.ext ?_)
  show GatherDims.start _ (ix2 b 0) idx a + GatherDims.batchCoord _ (ix2 b 0) a + GatherDims.offCoord _ (ix2 b 0) a = _
  rw [GatherDims.offCoord_eq_zero _ _ _ (by revert a; decide), Nat.add_zero]
  have h01 : a = 0 ∨ a = 1 := by
    revert a
    decide
  rcases h01 with rfl | rfl
  · rw [GatherDims.start_batching _ _ _ _ (by decide), Nat.zero_add]
    unfold GatherDims.batchCoord
    rw [dif_pos (by decide)]
    rfl
  · rw [GatherDims.batchCoord_eq_zero _ _ _ (by decide), Nat.add_zero]
    unfold GatherDims.start
    rw [dif_pos (by decide), hi, hn]
    exact Nat.min_eq_left (Nat.le_of_lt_succ n.isLt)

variable (x1 : Vec Ideal S1024x4096 .f32) (hm : ∀ b k, inner k → (x1 (ix2 b k) : EReal) = 1)
include hm

/-- Each row has 4094 inner columns. -/
theorem count_at (b : Fin 1024) : val_main_v47 (F := Ideal) x1 (ix1 b) = 4094#32 := by
  have hQ : ∀ q : Fin 4096, val_main_v43 (F := Ideal) x1 (ix2 b q) = 1#1 ↔ (1 ≤ q.val ∧ q.val ≤ 4094) := by
    intro q
    rw [mask_bit x1 hm]
    by_cases hq : inner q
    · rw [decide_eq_true hq]
      exact ⟨fun _ => hq, fun _ => rfl⟩
    · rw [decide_eq_false hq]
      exact ⟨fun h => absurd h (by decide), fun h => absurd h hq⟩
  have h := Routing.reduce_count (n := 1024) (m := 4096) (by norm_num) (val_main_v43 (F := Ideal) x1) natLt_1_32
    reducesTo_S1024x4096_S1024_d1 h_S_ b (fun q => 1 ≤ q ∧ q ≤ 4094) hQ
  have hc : Nat.count (fun q => 1 ≤ q ∧ q ≤ 4094) 4096 = 4094 := by decide +kernel
  rw [hc] at h
  exact h

theorem last_at (b : Fin 1024) : val_main_v51 (F := Ideal) x1 (ix1 b) = 4093#32 := by
  pointwise [val_main_v51, val_main_v50, val_main_v49, val_main_v48, val_main_c_14, val_main_c_15]
  rw [count_at x1 hm]
  decide

theorem lower_at (b : Fin 1024) : val_main_v52 (F := Ideal) x1 (ix1 b) = 2046#32 := by
  pointwise [val_main_v52, val_main_call4_v13, val_main_call4_v12, val_main_call4_c_0, val_main_call4_v11, val_main_call4_v10,
    val_main_call4_v9, val_main_call4_c, val_main_call4_v8, val_main_call4_v7, val_main_call4_v6, val_main_call4_v5,
    val_main_call4_v4, val_main_call4_v3, val_main_call4_v2, val_main_call4_v1, val_main_call4_v0, val_main_c_16]
  rw [last_at x1 hm]
  decide

theorem upper_at (b : Fin 1024) : val_main_v53 (F := Ideal) x1 (ix1 b) = 2047#32 := by
  pointwise [val_main_v53, val_main_call5_v13, val_main_call5_v12, val_main_call5_c_0, val_main_call5_v11, val_main_call5_v10,
    val_main_call5_v9, val_main_call5_c, val_main_call5_v8, val_main_call5_v7, val_main_call5_v6, val_main_call5_v5,
    val_main_call5_v4, val_main_call5_v3, val_main_call5_v2, val_main_call5_v1, val_main_call5_v0, val_main_c_17,
    val_main_v49, val_main_v48, val_main_c_14]
  rw [count_at x1 hm]
  decide

theorem lower_index (j : S1024x1x1.Idx) : val_main_call6_v5 (F := Ideal) x1 j = 2046#32 := by
  idx_vars j
  pointwise [val_main_call6_v5, val_main_call6_v4, val_main_call6_v3, val_main_call6_v2, val_main_call6_c_0, val_main_call6_v1,
    val_main_call6_v0, val_main_call6_c, val_main_v54]
  rw [lower_at x1 hm]
  decide

theorem lower_inside (j : S1024x1.Idx) : val_main_call6_v12 (F := Ideal) x1 j = 1#1 := by
  unfold val_main_call6_v12
  refine Host.reduce_andi_one _ _ _ _ _ rfl fun i => ?_
  have h := lower_index x1 hm i
  idx_vars i
  pointwise [val_main_call6_v11, val_main_call6_v10, val_main_call6_v9, val_main_call6_v8, val_main_call6_v7, val_main_call6_v6,
    val_main_call6_c_1, val_main_call6_c_2]
  rw [h]
  decide

/-- The entry of the sorted row at the lower position. -/
theorem lower_entry (x0 : Vec Ideal S1024x4096x2 .f32) (b : Fin 1024) :
    val_main_v56 (F := Ideal) x0 x1 (ix1 b) = val_main_v45 (F := Ideal) x0 x1 (ix2 b 2046) := by
  pointwise [val_main_v56, val_main_v55]
  rw [lower_inside x1 hm]
  exact (if_pos rfl).trans (gather_column _ _ 2046 (lower_index x1 hm) b)

theorem upper_index (j : S1024x1x1.Idx) : val_main_call7_v5 (F := Ideal) x1 j = 2047#32 := by
  idx_vars j
  pointwise [val_main_call7_v5, val_main_call7_v4, val_main_call7_v3, val_main_call7_v2, val_main_call7_c_0, val_main_call7_v1,
    val_main_call7_v0, val_main_call7_c, val_main_v57]
  rw [upper_at x1 hm]
  decide

theorem upper_inside (j : S1024x1.Idx) : val_main_call7_v12 (F := Ideal) x1 j = 1#1 := by
  unfold val_main_call7_v12
  refine Host.reduce_andi_one _ _ _ _ _ rfl fun i => ?_
  have h := upper_index x1 hm i
  idx_vars i
  pointwise [val_main_call7_v11, val_main_call7_v10, val_main_call7_v9, val_main_call7_v8, val_main_call7_v7, val_main_call7_v6,
    val_main_call7_c_1, val_main_call7_c_2]
  rw [h]
  decide

/-- The entry of the sorted row at the upper position. -/
theorem upper_entry (x0 : Vec Ideal S1024x4096x2 .f32) (b : Fin 1024) :
    val_main_v59 (F := Ideal) x0 x1 (ix1 b) = val_main_v45 (F := Ideal) x0 x1 (ix2 b 2047) := by
  pointwise [val_main_v59, val_main_v58]
  rw [upper_inside x1 hm]
  exact (if_pos rfl).trans (gather_column _ _ 2047 (upper_index x1 hm) b)

/-- The second median reads its sorted row at the same positions as the first. -/
theorem lower_entry_again (x0 : Vec Ideal S1024x4096x2 .f32) (b : Fin 1024) :
    val_main_v96 (F := Ideal) x0 x1 (ix1 b) = val_main_v85 (F := Ideal) x0 x1 (ix2 b 2046) := by
  pointwise [val_main_v96, val_main_v95]
  rw [show val_main_call12_v12 (F := Ideal) x1 = val_main_call6_v12 (F := Ideal) x1 from rfl, lower_inside x1 hm]
  exact (if_pos rfl).trans (gather_column _ _ 2046 (lower_index x1 hm) b)

theorem upper_entry_again (x0 : Vec Ideal S1024x4096x2 .f32) (b : Fin 1024) :
    val_main_v99 (F := Ideal) x0 x1 (ix1 b) = val_main_v85 (F := Ideal) x0 x1 (ix2 b 2047) := by
  pointwise [val_main_v99, val_main_v98]
  rw [show val_main_call13_v12 (F := Ideal) x1 = val_main_call7_v12 (F := Ideal) x1 from rfl, upper_inside x1 hm]
  exact (if_pos rfl).trans (gather_column _ _ 2047 (upper_index x1 hm) b)

end Cert.Values

end
-- ==== Proof.Values.RefMedian.lean ====
/-
  The reference's two medians.
-/
module

public import proofs.«01_k».proof.Proof.Values.RefCount

@[expose] public section

set_option maxRecDepth 16384

noncomputable section

namespace Cert.Values

open Idealize.ShloMosaic Idealize.ShloMosaic.TcCoe Idealize.SL.Sem
open Cert.ReferenceIdeal Cert.ReferenceIdeal.Gen Cert.ReferenceIdeal.Read

/-- The sort's test on two real or infinite entries is `<`. -/
theorem comparator_lt (l r : EReal) : (comparator_f32_d1 (F := Ideal) l r == 1#1) = true ↔ l < r := by
  have key : ∀ z : EReal, (if z = 0 then (0 : EReal) else z) = z := by
    intro z
    split_ifs with h
    · exact h.symm
    · rfl
  unfold comparator_f32_d1
  pointwise []
  rw [if_neg (not_not.mpr rfl), if_neg (not_not.mpr rfl), key, key]
  show (BitVec.ofBool (decide (l < r)) == 1#1) = true ↔ l < r
  by_cases h : l < r <;> simp [h]

/-- A sorted row's entries are its order statistics. -/
theorem sort_kth (x : Vec Ideal S1024x4096 .f32) (b : Fin 1024) (f : Fin 4096 → EReal) (hf : ∀ k, (x (ix2 b k) : EReal) = f k)
    (p : Fin 4096) : IsKth f p.val (Host.sort S1024x4096 1 (comparator_f32_d1 (F := Ideal)) x (ix2 b p)) := by
  have ha : ∀ k : Fin 4096, Shape.Idx.along (s := S1024x4096) (ix2 b p) (1 : Fin 2) k = ix2 b k := by
    intro k
    refine funext fun a => ?_
    have h01 : a = 0 ∨ a = 1 := by
      revert a
      decide
    rcases h01 with rfl | rfl <;> rfl
  have h := isKth_sorted f (fun k k' => comparator_f32_d1 (F := Ideal) (x (ix2 b k)) (x (ix2 b k')) == 1#1)
    (fun k k' => by rw [comparator_lt, hf, hf]) p
  have e : Host.sort S1024x4096 1 (comparator_f32_d1 (F := Ideal)) x (ix2 b p)
      = x (ix2 b (sortedFrom (fun k k' => comparator_f32_d1 (F := Ideal) (x (ix2 b k)) (x (ix2 b k')) == 1#1) p)) := by
    unfold Host.sort
    rw [dif_pos (by decide)]
    show x (Shape.Idx.along (s := S1024x4096) (ix2 b p) (1 : Fin 2) (sortedFrom (fun k k' : Fin 4096 =>
      comparator_f32_d1 (F := Ideal) (x (Shape.Idx.along (s := S1024x4096) (ix2 b p) (1 : Fin 2) k))
        (x (Shape.Idx.along (s := S1024x4096) (ix2 b p) (1 : Fin 2) k')) == 1#1) p)) = _
    simp only [ha]
    exact congrArg x (ha _)
  rw [e, hf]
  exact h

section Points

variable (x0 : Vec Ideal S1024x4096x2 .f32) (x1 : Vec Ideal S1024x4096 .f32) (hm : ∀ b k, inner k → (x1 (ix2 b k) : EReal) = 1)
  (X Y : Fin 1024 → Fin 4096 → EReal) (hx : ∀ b k, (x0 (ix3 b k 0) : EReal) = X b k)
  (hy : ∀ b k, (x0 (ix3 b k 1) : EReal) = Y b k) (ha : ∀ b, Apart (X b) (Y b))
include hm hx hy ha

/-- The row the first median sorts. -/
theorem kept_at (b : Fin 1024) (k : Fin 4096) :
    (val_main_v44 (F := Ideal) x0 x1 (ix2 b k) : EReal) = innerRow (turns (X b) (Y b)) k := by
  pointwise [val_main_v44, val_main_call2_v1, val_main_call2_v0, val_main_cst_13]
  rw [mask_bit x1 hm, turns_ref_at x0 X Y hx hy ha]
  refine (choice _ _ _).trans ?_
  unfold innerRow
  rw [← lit_top]
  rfl

/-- The first median. -/
theorem med_ref_at (b : Fin 1024) : (val_main_v77 (F := Ideal) x0 x1 (ix1 b) : EReal) = curveMed (X b) (Y b) := by
  pointwise [val_main_v77, val_main_v76, val_main_v75, val_main_v74, val_main_v73, val_main_v72, val_main_v71, val_main_v70, val_main_v69,
    val_main_v68, val_main_v67, val_main_v66, val_main_v65, val_main_v64, val_main_v63, val_main_v62, val_main_v61, val_main_v60,
    val_main_cst_18, val_main_cst_19, val_main_cst_20, val_main_cst_21, val_main_cst_22, val_main_cst_23, val_main_cst_24]
  rw [lower_entry x1 hm, upper_entry x1 hm]
  unfold val_main_v45
  have hv := sort_kth (val_main_v44 (F := Ideal) x0 x1) b _ (kept_at x0 x1 hm X Y hx hy ha b) 2046
  have hw := sort_kth (val_main_v44 (F := Ideal) x0 x1) b _ (kept_at x0 x1 hm X Y hx hy ha b) 2047
  unfold curveMed
  rw [(rowMedian_eq _ lowR highR low_lt_high (turns_low (X b) (Y b)) (fun k _ => turns_high (X b) (Y b) k) _ _ hv hw).1,
    ← lit_low, ← lit_high]
  rfl

/-- The row the second median sorts. -/
theorem gaps_at (b : Fin 1024) (k : Fin 4096) :
    (val_main_v84 (F := Ideal) x0 x1 (ix2 b k) : EReal) = innerRow (curveGaps (X b) (Y b)) k := by
  pointwise [val_main_v84, val_main_call8_v1, val_main_call8_v0, val_main_cst_26, val_main_v81, val_main_v80, val_main_v79, val_main_v78]
  rw [show val_main_v83 (F := Ideal) x1 = val_main_v43 (F := Ideal) x1 from rfl, mask_bit x1 hm,
    turns_ref_at x0 X Y hx hy ha, med_ref_at x0 x1 hm X Y hx hy ha, curveMed_coe]
  refine (choice _ _ _).trans ?_
  unfold innerRow
  rw [← lit_top]
  refine if_congr Iff.rfl ?_ rfl
  rw [← EReal.coe_sub]
  exact abs_coe _

/-- The second median. -/
theorem mad_ref_at (b : Fin 1024) : (val_main_v117 (F := Ideal) x0 x1 (ix1 b) : EReal) = curveMad (X b) (Y b) := by
  pointwise [val_main_v117, val_main_v116, val_main_v115, val_main_v114, val_main_v113, val_main_v112, val_main_v111, val_main_v110,
    val_main_v109, val_main_v108, val_main_v107, val_main_v106, val_main_v105, val_main_v104, val_main_v103, val_main_v102,
    val_main_v101, val_main_v100, val_main_cst_32, val_main_cst_33, val_main_cst_34, val_main_cst_35, val_main_cst_36,
    val_main_cst_37, val_main_cst_38]
  rw [lower_entry_again x1 hm, upper_entry_again x1 hm]
  unfold val_main_v85
  have hv := sort_kth (val_main_v84 (F := Ideal) x0 x1) b _ (gaps_at x0 x1 hm X Y hx hy ha b) 2046
  have hw := sort_kth (val_main_v84 (F := Ideal) x0 x1) b _ (gaps_at x0 x1 hm X Y hx hy ha b) 2047
  unfold curveMad
  rw [(rowMedian_eq _ lowR highDevR (lowR_neg.trans_le (by linarith [highDev_ge, lowR_neg])) (curveGaps_low (X b) (Y b))
      (fun k _ => curveGaps_high (X b) (Y b) k) _ _ hv hw).1,
    ← lit_low, ← lit_highDev]
  rfl

end Points

end Cert.Values

end
-- ==== Proof.Values.RefGate.lean ====
/-
  The reference's scale, gate and loss.
-/
module

public import proofs.«01_k».proof.Proof.Values.RefMedian

@[expose] public section

set_option maxRecDepth 16384

noncomputable section

namespace Cert.Values

open Idealize.ShloMosaic Idealize.ShloMosaic.TcCoe Idealize.SL.Sem
open Cert.ReferenceIdeal Cert.ReferenceIdeal.Gen Cert.ReferenceIdeal.Read

theorem tau_ref (x2 : Vec Ideal S_ .f32) : (val_main_v1 (F := Ideal) x2 ix0 : EReal) = softplus (x2 ix0) + Ideal.ofBits .f32 0x358637BD#32 := by
  pointwise [val_main_v1, val_main_cst, val_main_v0, val_main_call0_v8, val_main_call0_v7, val_main_call0_v6, val_main_call0_v5,
    val_main_call0_v4, val_main_call0_v3, val_main_call0_v2, val_main_call0_v1, val_main_call0_v0, val_main_call0_cst]
  rfl

theorem gamma_ref (x3 : Vec Ideal S_ .f32) : (val_main_v2 (F := Ideal) x3 ix0 : EReal) = softplus (x3 ix0) := by
  pointwise [val_main_v2, val_main_call1_v8, val_main_call1_v7, val_main_call1_v6, val_main_call1_v5,
    val_main_call1_v4, val_main_call1_v3, val_main_call1_v2, val_main_call1_v1, val_main_call1_v0, val_main_call1_cst]
  rfl

/-- Dividing the negative of a value is multiplying the value by minus one over the divisor. -/
theorem neg_div_eq (x d : EReal) (hd : d ≠ 0) : Ideal.div (-x) d = x * Ideal.div (Ideal.ofBits .f32 0xBF800000#32) d := by
  unfold Ideal.div
  rw [if_neg hd, if_neg hd, lit_neg_one, EReal.coe_neg, EReal.coe_one, neg_mul, neg_mul, one_mul, mul_neg]

/-- A curve's inner columns, counted. -/
theorem sum_ind : (∑ k, ind k : EReal) = ((4094 : ℝ) : EReal) := by
  have h : (∑ k, ind k : EReal) = ((Finset.univ.filter fun k : Fin 4096 => inner k).card : EReal) := by
    unfold ind
    exact Finset.sum_boole _ _
  rw [h, card_inner, ← EReal.coe_natCast]
  exact congrArg Real.toEReal (Nat.cast_ofNat (R := ℝ) (n := 4094))

/-- The rows block by block are all the rows. -/
theorem sum_rows (f : Fin 1024 → EReal) : ∑ t : Fin 4, ∑ r : Fin 256, f (rowOf t r) = ∑ b, f b := by
  rw [← Fintype.sum_prod_type' (fun t r => f (rowOf t r))]
  refine Fintype.sum_equiv (finProdFinEquiv (m := 4) (n := 256)) _ _ fun p => congrArg f (Fin.ext ?_)
  show p.1.val * 256 + p.2.val = p.2.val + 256 * p.1.val
  omega

section Points

variable (x0 : Vec Ideal S1024x4096x2 .f32) (x1 : Vec Ideal S1024x4096 .f32) (x2 x3 : Vec Ideal S_ .f32)
  (hm : ∀ b k, inner k → (x1 (ix2 b k) : EReal) = 1)
  (X Y : Fin 1024 → Fin 4096 → EReal) (hx : ∀ b k, (x0 (ix3 b k 0) : EReal) = X b k)
  (hy : ∀ b k, (x0 (ix3 b k 1) : EReal) = Y b k) (ha : ∀ b, Apart (X b) (Y b))

include hm in
/-- The number of points kept. -/
theorem kept_count : (val_main_v148 (F := Ideal) x1 ix0 : EReal) = Ideal.ofBits .f32 0x4A7FE000#32 := by
  pointwise [val_main_v148, val_main_v147, val_main_cst_47, val_main_cst_48]
  simp only [mask_at x1 hm, sum_ind]
  rw [Finset.sum_const, Finset.card_univ, Fintype.card_fin, lit_points]
  rw [show (1024 : ℕ) • ((4094 : ℝ) : EReal) = ((4192256 : ℝ) : EReal) from by
    rw [← EReal.coe_nsmul]
    norm_num]
  exact max_eq_left (EReal.coe_one ▸ EReal.coe_le_coe_iff.mpr (by norm_num : (1 : ℝ) ≤ 4192256))

include hm hx hy ha

theorem scale_ref_at (b : Fin 1024) :
    (val_main_v124 (F := Ideal) x0 x1 x3 (ix1 b) : EReal) = curveScale (softplus (x3 ix0)) (X b) (Y b) := by
  pointwise [val_main_v124, val_main_v123, val_main_v122, val_main_v121, val_main_v120, val_main_v119, val_main_v118,
    val_main_cst_39, val_main_cst_40]
  rw [mad_ref_at x0 x1 hm X Y hx hy ha, med_ref_at x0 x1 hm X Y hx hy ha, gamma_ref]
  rfl

theorem gate_ref_at (b : Fin 1024) (k : Fin 4096) :
    (val_main_v143 (F := Ideal) x0 x1 x2 x3 (ix2 b k) : EReal)
      = curveGate (softplus (x2 ix0) + Ideal.ofBits .f32 0x358637BD#32) (softplus (x3 ix0)) (X b) (Y b) k := by
  pointwise [val_main_v143, val_main_v142, val_main_v141, val_main_v140, val_main_v139, val_main_v138, val_main_v137, val_main_v136,
    val_main_v135, val_main_v134, val_main_v133, val_main_v132, val_main_v131, val_main_v130, val_main_v129, val_main_v128,
    val_main_v127, val_main_v126, val_main_v125, val_main_cst_41, val_main_cst_42, val_main_cst_43, val_main_cst_44, val_main_cst_45]
  rw [mask_at x1 hm, turns_ref_at x0 X Y hx hy ha, scale_ref_at x0 x1 x3 hm X Y hx hy ha, tau_ref]
  have hd : max ((softplus (x2 ix0) + Ideal.ofBits .f32 0x358637BD#32) * curveScale (softplus (x3 ix0)) (X b) (Y b))
      (Ideal.ofBits .f32 0x358637BD#32) ≠ 0 := by
    refine (lt_of_lt_of_le ?_ (le_max_right _ _)).ne'
    rw [lit_eps]
    exact EReal.coe_pos.mpr epsR_pos
  rw [neg_div_eq _ _ hd]
  rfl

theorem loss_ref : (val_main_v149 (F := Ideal) x0 x1 x2 x3 ix0 : EReal)
      = Ideal.div (∑ b : Fin 1024, curvePart (softplus (x2 ix0) + Ideal.ofBits .f32 0x358637BD#32) (softplus (x3 ix0)) (X b) (Y b))
        (Ideal.ofBits .f32 0x4A7FE000#32) := by
  pointwise [val_main_v149]
  rw [kept_count x1 hm]
  pointwise [val_main_v146, val_main_v145, val_main_v144, val_main_cst_46]
  refine congrArg (fun s => Ideal.div s _) (Finset.sum_congr rfl fun b _ => Finset.sum_congr rfl fun k _ => ?_)
  rw [gate_ref_at x0 x1 x2 x3 hm X Y hx hy ha, turns_ref_at x0 X Y hx hy ha, mask_at x1 hm]
  unfold ind
  by_cases hk : inner k
  · rw [if_pos hk, mul_one]
  · rw [turns_outer _ _ _ hk, EReal.coe_zero, mul_zero, zero_mul]

end Points

end Cert.Values

end
-- ==== Proof.Values.ReferenceRun.lean ====
/-
  What a run of the reference leaves in its six results, and that it leaves its arguments unchanged.
-/
module

public import proofs.«01_k».proof.Proof.Values.RefGate
public import proofs.«01_k».proof.Proof.Gen.ReferenceIdeal.Run

@[expose] public section

set_option maxRecDepth 16384

noncomputable section

namespace Cert.Values

open Idealize.ShloMosaic Idealize.ShloMosaic.TcCoe Idealize.SL.Sem
open Cert.ReferenceIdeal Cert.ReferenceIdeal.Gen Cert.ReferenceIdeal.Read

section Points

variable (x0 : Vec Ideal S1024x4096x2 .f32) (x1 : Vec Ideal S1024x4096 .f32) (x2 x3 : Vec Ideal S_ .f32)
  (hm : ∀ b k, inner k → (x1 (ix2 b k) : EReal) = 1)
  (X Y : Fin 1024 → Fin 4096 → EReal) (hx : ∀ b k, (x0 (ix3 b k 0) : EReal) = X b k)
  (hy : ∀ b k, (x0 (ix3 b k 1) : EReal) = Y b k) (ha : ∀ b, Apart (X b) (Y b))
include hm hx hy ha

omit hm in
theorem turns_ref : val_main_v38 (F := Ideal) x0 = resTurns X Y := by
  funext j
  idx_vars j
  exact turns_ref_at x0 X Y hx hy ha _ _

theorem gate_ref : val_main_v143 (F := Ideal) x0 x1 x2 x3
    = resGate (softplus (x2 ix0) + Ideal.ofBits .f32 0x358637BD#32) (softplus (x3 ix0)) X Y := by
  funext j
  idx_vars j
  exact gate_ref_at x0 x1 x2 x3 hm X Y hx hy ha _ _

theorem scale_ref : val_main_v124 (F := Ideal) x0 x1 x3 = resScale (softplus (x3 ix0)) X Y := by
  funext j
  idx_vars j
  exact scale_ref_at x0 x1 x3 hm X Y hx hy ha _

theorem med_ref : val_main_v77 (F := Ideal) x0 x1 = resMed X Y := by
  funext j
  idx_vars j
  exact med_ref_at x0 x1 hm X Y hx hy ha _

theorem mad_ref : val_main_v117 (F := Ideal) x0 x1 = resMad X Y := by
  funext j
  idx_vars j
  exact mad_ref_at x0 x1 hm X Y hx hy ha _

theorem loss_ref_all : val_main_v149 (F := Ideal) x0 x1 x2 x3
    = resLoss (softplus (x2 ix0) + Ideal.ofBits .f32 0x358637BD#32) (softplus (x3 ix0)) X Y := by
  funext j
  obtain rfl : j = ix0 := funext fun a => a.elim0
  refine (loss_ref x0 x1 x2 x3 hm X Y hx hy ha).trans ?_
  unfold resLoss
  exact congrArg (fun s => Ideal.div s _) (sum_rows fun b => curvePart _ _ (X b) (Y b)).symm

end Points

/-- A run of the reference, from any memory whose first argument holds such curves and whose second is one on the inner columns. -/
theorem reference_run (m : (ℓ : Loc nD τ sig) → Buf (Elt Ideal) ℓ) (ρ : Dev nD → PrngReg)
    (X Y : Dev nD → Fin 1024 → Fin 4096 → EReal)
    (hm : ∀ (c : Dev nD) b k, inner k → m ((c.tc : Thread nD τ).loc main_arg1) (ix2 b k) = (1 : EReal))
    (hx : ∀ (c : Dev nD) b k, m ((c.tc : Thread nD τ).loc main_arg0) (ix3 b k 0) = X c b k)
    (hy : ∀ (c : Dev nD) b k, m ((c.tc : Thread nD τ).loc main_arg0) (ix3 b k 1) = Y c b k)
    (ha : ∀ c b, Apart (X c b) (Y c b)) :
    θ_run (defs (F := Ideal)) (onTc (τ := τ) (main (F := Ideal))) ⟨m, fun _ => 0, ρ⟩ fun r => ∀ c : Dev nD,
      r.2.mem ((c.tc : Thread nD τ).loc main_v38) = resTurns (X c) (Y c)
      ∧ r.2.mem ((c.tc : Thread nD τ).loc main_v143)
        = resGate (softplus (m ((c.tc : Thread nD τ).loc main_arg2) ix0) + Ideal.ofBits .f32 0x358637BD#32)
          (softplus (m ((c.tc : Thread nD τ).loc main_arg3) ix0)) (X c) (Y c)
      ∧ r.2.mem ((c.tc : Thread nD τ).loc main_v124)
        = resScale (softplus (m ((c.tc : Thread nD τ).loc main_arg3) ix0)) (X c) (Y c)
      ∧ r.2.mem ((c.tc : Thread nD τ).loc main_v77) = resMed (X c) (Y c)
      ∧ r.2.mem ((c.tc : Thread nD τ).loc main_v117) = resMad (X c) (Y c)
      ∧ r.2.mem ((c.tc : Thread nD τ).loc main_v149)
        = resLoss (softplus (m ((c.tc : Thread nD τ).loc main_arg2) ix0) + Ideal.ofBits .f32 0x358637BD#32)
          (softplus (m ((c.tc : Thread nD τ).loc main_arg3) ix0)) (X c) (Y c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => by
    obtain ⟨h0, h1, h2, h3, h4, h5, h6⟩ := h c
    refine ⟨h0.trans ((val_main_v38_eq _).trans ?_), h1.trans ((val_main_v143_eq _).trans ?_),
      h2.trans ((val_main_v124_eq _).trans ?_), h3.trans ((val_main_v77_eq _).trans ?_),
      h4.trans ((val_main_v117_eq _).trans ?_), h5.trans ((val_main_v149_eq _).trans ?_), h6⟩
    · exact turns_ref _ (X c) (Y c) (hx c) (hy c) (ha c)
    · exact gate_ref _ _ _ _ (hm c) (X c) (Y c) (hx c) (hy c) (ha c)
    · exact scale_ref _ _ _ (hm c) (X c) (Y c) (hx c) (hy c) (ha c)
    · exact med_ref _ _ (hm c) (X c) (Y c) (hx c) (hy c) (ha c)
    · exact mad_ref _ _ (hm c) (X c) (Y c) (hx c) (hy c) (ha c)
    · exact loss_ref_all _ _ _ _ (hm c) (X c) (Y c) (hx c) (hy c) (ha c)) (Cert.ReferenceIdeal.Value.run m ρ)

end Cert.Values

end
-- ==== Proof.Values.Precondition.lean ====
/-
  The precondition, read as a statement about the points and the mask.
-/
module

public import proofs.«01_k».proof.Proof.Values.ReferenceRun
public import proofs.«01_k».proof.Proof.Gen.Pre_separate_points

@[expose] public section

set_option maxRecDepth 16384

noncomputable section

namespace Cert.Values

open Idealize.ShloMosaic Idealize.ShloMosaic.TcCoe Idealize.SL.Sem
open Cert.Pre_separate_points

/-- A bit that is the conjunction of two is one only if both are. -/
theorem both_one : ∀ x y : BitVec 1, IntOp.andi x y = 1#1 → x = 1#1 ∧ y = 1#1 := by decide

theorem bit_holds (p : Prop) [Decidable p] (h : BitVec.ofBool (decide p) = 1#1) : p := by
  by_contra hp
  simp [hp] at h

/-- The precondition: the mask is one on the inner columns, and neighbouring points lie apart. -/
theorem points_of_pre (x0 : Vec Ideal S1024x4096x2 .f32) (x1 : Vec Ideal S1024x4096 .f32) (x2 x3 : Vec Ideal S_ .f32)
    (h : fn (F := Ideal) x0 x1 x2 x3 = fun _ => 1#1) :
    (∀ b k, inner k → (x1 (ix2 b k) : EReal) = 1) ∧ ∃ X Y : Fin 1024 → Fin 4096 → EReal,
      (∀ b k, (x0 (ix3 b k 0) : EReal) = X b k) ∧ (∀ b k, (x0 (ix3 b k 1) : EReal) = Y b k) ∧ ∀ b, Apart (X b) (Y b) := by
  have h0 := congrFun h ix0
  unfold fn at h0
  obtain ⟨h1, h2⟩ := both_one _ _ h0
  refine ⟨fun b k hk => ?_, fun b k => x0 (ix3 b k 0), fun b k => x0 (ix3 b k 1), fun _ _ => rfl, fun _ _ => rfl,
    fun b k hk => ?_⟩
  · obtain ⟨hk1, hk2⟩ := id hk
    have e := Host.reduce_andi_all _ _ _ _ _ h2 (ix2 b ⟨k.val - 1, by omega⟩)
    pointwise [] at e
    have q := bit_holds _ e
    simp only [show 1 + (k.val - 1) = k.val from by omega, Fin.eta] at q
    exact q
  · have e := Host.reduce_andi_all _ _ _ _ _ h1 (ix2 b ⟨k, by omega⟩)
    pointwise [] at e
    have q := bit_holds _ e
    rw [Fin.sum_univ_two, lit_eps] at q
    simp only [show 1 + k = k + 1 from by omega] at q
    exact q

end Cert.Values

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_separate_points
public import proofs.«01_k».proof.Proof.Gen.ReferenceIdeal.Run
public import proofs.«01_k».proof.Proof.Gen.ReferenceIdeal.Read
public import proofs.«01_k».proof.Proof.Values.Precondition
public import Idealize.ShloMosaic.Adequacy
public import Idealize.ShloMosaic.Init

@[expose] public section

noncomputable section

namespace Cert.Proof

open Idealize.ShloMosaic Idealize.SL.Sem Cert.Kernel

/-- The reference runs, leaves its arguments unchanged and every counter at zero. -/
theorem reference_frame : Cert.quiescent_ReferenceIdeal := fun m ρ _ =>
  (θ_run Cert.ReferenceIdeal.defs _ _).mono (fun r h => ⟨fun c => (h c).2.2.2.2.2.2, sem_eq_zero_of_no_sems (by decide) r.2⟩)
    (Cert.ReferenceIdeal.Value.run (F := Ideal) m ρ)

/-- The kernel's program and the reference end with the same six results. -/
theorem same_results : Cert.algebraic_KernelIdeal_ReferenceIdeal_pre_separate_points := by
  intro m g m' g' hpre hargs
  have hp := fun c => Cert.Values.points_of_pre _ _ _ _ (hpre c)
  choose hm X Y hx hy ha using hp
  refine ⟨fun c => Cert.Values.resTurns (X c) (Y c),
    fun c => Cert.Values.resGate (Cert.Values.tauOf m c) (Cert.Values.gammaOf m c) (X c) (Y c),
    fun c => Cert.Values.resScale (Cert.Values.gammaOf m c) (X c) (Y c), fun c => Cert.Values.resMed (X c) (Y c),
    fun c => Cert.Values.resMad (X c) (Y c),
    fun c => Cert.Values.resLoss (Cert.Values.tauOf m c) (Cert.Values.gammaOf m c) (X c) (Y c),
    Cert.Values.kernel_run m g X Y hx hy ha, ?_⟩
  have e0 := fun c => (hargs c).1
  have e1 := fun c => (hargs c).2.1
  have e2 := fun c => (hargs c).2.2.1
  have e3 := fun c => (hargs c).2.2.2
  have h := Cert.Values.reference_run m' g' X Y (fun c b k hk => (congrFun (e1 c) _).trans (hm c b k hk))
    (fun c b k => (congrFun (e0 c) _).trans (hx c b k)) (fun c b k => (congrFun (e0 c) _).trans (hy c b k)) ha
  refine (θ_run _ _ _).mono (fun r h c => ?_) h
  have ht : Cert.Values.tauOf m c = Cert.Values.softplus (m' ((c.tc : Thread Cert.ReferenceIdeal.nD Cert.ReferenceIdeal.τ).loc
      Cert.ReferenceIdeal.main_arg2) Idealize.ShloMosaic.ix0) + Ideal.ofBits .f32 0x358637BD#32 := by
    rw [e2 c]
    exact Cert.Values.tauOf_eq m c
  have hg : Cert.Values.gammaOf m c = Cert.Values.softplus (m' ((c.tc : Thread Cert.ReferenceIdeal.nD Cert.ReferenceIdeal.τ).loc
      Cert.ReferenceIdeal.main_arg3) Idealize.ShloMosaic.ix0) := by
    rw [e3 c]
    exact Cert.Values.gammaOf_eq m c
  obtain ⟨h0, h1, h2, h3, h4, h5, h6⟩ := h c
  dsimp only
  rw [ht, hg]
  exact ⟨h0, h1, h2, h3, h4, h5, h6⟩

theorem claim : Cert.Claim := ⟨Cert.Kernel.Gen.facts, Cert.KernelIdeal.Gen.facts, Cert.ReferenceIdeal.Gen.facts, Cert.Pre_separate_points.Gen.facts,
  fun m ρ _ => Cert.Kernel.Gen.frame m ρ, fun m ρ _ => Cert.KernelIdeal.Gen.frame m ρ, fun m ρ _ => Cert.KernelIdeal.Gen.frame m ρ,
  reference_frame, fun m ρ _ => reference_frame m ρ trivial, trivial, same_results⟩

end Cert.Proof

end
